-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2, 2] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 2, 2] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S4x256x2048 : Shape := ⟨3, ![4, 256, 2048]⟩
abbrev S4 : Shape := ⟨1, ![4]⟩
abbrev S_ : Shape := ⟨0, ![]⟩
abbrev S1x256x1024 : Shape := ⟨3, ![1, 256, 1024]⟩
abbrev S256x1024 : Shape := ⟨2, ![256, 1024]⟩
abbrev S256x2048 : Shape := ⟨2, ![256, 2048]⟩
abbrev S1x256x2048 : Shape := ⟨3, ![1, 256, 2048]⟩
abbrev S1 : Shape := ⟨1, ![1]⟩
abbrev S1x512x1024 : Shape := ⟨3, ![1, 512, 1024]⟩
abbrev S512x1024 : Shape := ⟨2, ![512, 1024]⟩
abbrev S512x2048 : Shape := ⟨2, ![512, 2048]⟩
abbrev S1x512x2048 : Shape := ⟨3, ![1, 512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2x1024x16x64, .bf16⟩
  | .hbm, ⟨1, _⟩ => ⟨S1024x2048, .bf16⟩
  | .hbm, ⟨2, _⟩ => ⟨S2x1024x1024, .bf16⟩
  | .hbm, ⟨3, _⟩ => ⟨S2x512x2048, .f32⟩
  | .local _ .vmem, ⟨0, _⟩ => ⟨S2x1024x1024, .bf16⟩
  | .local _ .vmem, ⟨1, _⟩ => ⟨S1024x2048, .bf16⟩
  | .local _ .vmem, ⟨2, _⟩ => ⟨S2x512x2048, .f32⟩
  | .local _ .vmem, ⟨3, _⟩ => ⟨S1024x2048, .bf16⟩
  | .local _ .vmem, ⟨4, _⟩ => ⟨S4x256x2048, .bf16⟩
  | .local _ .vmem, ⟨5, _⟩ => ⟨S4x256x2048, .bf16⟩
  | _, _ => ⟨S2x1024x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) (c0_i32_12 : BitVec 32) : Fin 3 → Nat :=
  let c0_13 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v22 : BitVec 32 := Scalar.muli v9 c512_i32
  let v23 : BitVec 32 := Scalar.addi v22 c0_i32_12
  let v24 : Index := Scalar.indexCast v23
  let c0_14 : Index := 0#32
  ![0, v24.toNat, 0]
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v33 : BitVec 32 := Scalar.muli v2 c4_i32_24
  let v34 : BitVec 32 := Scalar.addi c0_i32_25 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v35 : BitVec 32 := Scalar.muli v5 c2_i32_26
  let v36 : BitVec 32 := Scalar.addi v34 v35
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v37 : BitVec 32 := Scalar.muli v9 c1_i32_27
  let v38 : BitVec 32 := Scalar.addi v36 v37
  v38.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v58 : BitVec 32 := Scalar.muli v2 c4_i32_44
  let v59 : BitVec 32 := Scalar.addi c0_i32_45 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v60 : BitVec 32 := Scalar.muli v5 c2_i32_46
  let v61 : BitVec 32 := Scalar.addi v59 v60
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v62 : BitVec 32 := Scalar.muli v9 c1_i32_47
  let v63 : BitVec 32 := Scalar.addi v61 v62
  v63.toNat
def k0_off2 (d0 : Dev nD) (c0_i32_53 : BitVec 32) : Fin 3 → Nat :=
  let c1_54 : Index := 1#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_52 : BitVec 32 := 512#32
  let v72 : BitVec 32 := Scalar.muli v9 c512_i32_52
  let v73 : BitVec 32 := Scalar.addi v72 c0_i32_53
  let v74 : Index := Scalar.indexCast v73
  let c0_55 : Index := 0#32
  ![1, v74.toNat, 0]
def k0_dev4 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v83 : BitVec 32 := Scalar.muli v2 c4_i32_65
  let v84 : BitVec 32 := Scalar.addi c0_i32_66 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v85 : BitVec 32 := Scalar.muli v5 c2_i32_67
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v87 : BitVec 32 := Scalar.muli v9 c1_i32_68
  let v88 : BitVec 32 := Scalar.addi v86 v87
  v88.toNat
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v108 : BitVec 32 := Scalar.muli v2 c4_i32_85
  let v109 : BitVec 32 := Scalar.addi c0_i32_86 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v110 : BitVec 32 := Scalar.muli v5 c2_i32_87
  let v111 : BitVec 32 := Scalar.addi v109 v110
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v112 : BitVec 32 := Scalar.muli v9 c1_i32_88
  let v113 : BitVec 32 := Scalar.addi v111 v112
  v113.toNat
def k0_off3 (d0 : Dev nD) : Fin 3 → Nat :=
  let c0_94 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_93 : BitVec 32 := 512#32
  let v122 : BitVec 32 := Scalar.muli v8 c512_i32_93
  let v123 : Index := Scalar.indexCast v122
  let c0_95 : Index := 0#32
  ![0, v123.toNat, 0]
def k0_off4 (d0 : Dev nD) : Fin 3 → Nat :=
  let c1_103 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_102 : BitVec 32 := 512#32
  let v131 : BitVec 32 := Scalar.muli v8 c512_i32_102
  let v132 : Index := Scalar.indexCast v131
  let c0_104 : Index := 0#32
  ![1, v132.toNat, 0]
abbrev stage0_0 : Fin 1 → Memref sig .tc .vmem S2x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x1024x32x64, .bf16⟩
  | .hbm, ⟨1, _⟩ => ⟨S2048x2048, .bf16⟩
  | .hbm, ⟨2, _⟩ => ⟨S2x1024x2048, .bf16⟩
  | .hbm, ⟨3, _⟩ => ⟨S2x1024x2048, .f32⟩
  | .hbm, ⟨4, _⟩ => ⟨S2x1024x2048, .bf16⟩
  | .hbm, ⟨5, _⟩ => ⟨S2x1024x2048, .f32⟩
  | _, _ => ⟨S2x1024x32x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Rows.lean ====
/-
  Reading and writing a buffer through a rectangle of consecutive rows, said element by element: which element of the
  buffer an element of the rectangle is, and what the buffer holds at an index after the rectangle has been overwritten.
-/
module

public import Idealize.ShloMosaic.Lib.Writes
public import Idealize.ShloMosaic.Lib.WritesUnit

@[expose] public section

namespace Cert.Rows

open Idealize.ShloMosaic

variable {sig : RefSig} {κ : Kind} {Val : EltTy → Type}

/-- Whether an index lies within the box that starts at `off` and has the extents `size`. -/
abbrev Inside {s : Shape} (off size : Fin s.rank → ℕ) (y : s.Idx) : Prop := ∀ a, off a ≤ (y a).val ∧ (y a).val < off a + size a

/-- The part of an array that the box at `off` of extents `size` covers, as an array of those extents. -/
def box {s : Shape} {T : Type} (off size : Fin s.rank → ℕ) (inb : ∀ a, off a + size a ≤ s.size a) (f : s.Idx → T) : (Rect.unit off size inb).shape.Idx → T :=
  fun x => f ((Rect.unit off size inb).emb x)

/-- The coordinates of an element of a box, in the whole array: the box's start plus the coordinates within the box. -/
theorem emb_val {s : Shape} (off size : Fin s.rank → ℕ) (inb : ∀ a, off a + size a ≤ s.size a) (x : (Rect.unit off size inb).shape.Idx) (a : Fin s.rank) :
    ((Rect.unit off size inb).emb x a).val = off a + (x a).val := by
  rw [Rect.emb_apply, Rect.stride_unit, Nat.one_mul, Rect.off_unit]

/-- The coordinates within the box of an index that lies in it. -/
abbrev within {s : Shape} {off size : Fin s.rank → ℕ} (inb : ∀ a, off a + size a ≤ s.size a) (y : s.Idx) (h : Inside off size y) :
    (Rect.unit off size inb).shape.Idx := Rect.unitLocal (s := s) (off := off) (size := size) y h

/-- The element of the box that an index within it is, placed back in the array, is that index. -/
theorem emb_local {s : Shape} (off size : Fin s.rank → ℕ) (inb : ∀ a, off a + size a ≤ s.size a) (y : s.Idx) (h : Inside off size y) :
    (Rect.unit off size inb).emb (within inb y h) = y :=
  funext fun a => Fin.ext (by rw [emb_val]; show off a + ((y a).val - off a) = (y a).val; have := h a; omega)

/-- Loading a box of a whole buffer gives the buffer's part there. -/
theorem load_box (b : Ref sig κ) (off size : Fin b.ty.shape.rank → ℕ) (inb : ∀ a, off a + size a ≤ b.ty.shape.size a) (f : b.ty.Contents Val) :
    (Memref.whole b).view.readAt Val (Rect.unit off size inb).toLoadRect f = box off size inb f := rfl

/-- After a box of a whole buffer has been stored to, an index within the box holds what was stored there -/
theorem store_inside (b : Ref sig κ) (off size : Fin b.ty.shape.rank → ℕ) (inb : ∀ a, off a + size a ≤ b.ty.shape.size a)
    (f : b.ty.Contents Val) (w : (Rect.unit off size inb).shape.Idx → Val b.ty.elt) (y : b.ty.shape.Idx) (h : Inside off size y) :
    ((Memref.whole b).access (Rect.unit off size inb)).write Val f w Finset.univ y = w (within inb y h) := by
  have hy : ((Memref.whole b).access (Rect.unit off size inb)).emb (within inb y h) = y := emb_local off size inb y h
  have := ((Memref.whole b).access (Rect.unit off size inb)).write_emb_of_mem f w (Finset.mem_univ (within inb y h))
  rw [hy] at this
  exact this

/-- and an index outside it what it held before. -/
theorem store_outside (b : Ref sig κ) (off size : Fin b.ty.shape.rank → ℕ) (inb : ∀ a, off a + size a ≤ b.ty.shape.size a)
    (f : b.ty.Contents Val) (w : (Rect.unit off size inb).shape.Idx → Val b.ty.elt) (y : b.ty.shape.Idx) (h : ¬ Inside off size y) :
    ((Memref.whole b).access (Rect.unit off size inb)).write Val f w Finset.univ y = f y := by
  refine View.write_of_not_mem (v := (Memref.whole b).access (Rect.unit off size inb)) f w Finset.univ fun hm => h ?_
  have hm' : y ∈ ((View.whole b).slice (Rect.unit off size inb)).set := hm
  rw [View.set_slice_whole] at hm'
  exact Rect.mem_set_unit.mp hm'

end Cert.Rows
-- ==== Proof.KernelIdealTalk.lean ====
/-
  What the devices exchange and how. Device `c` and its partner `pr c` (the device that differs from it in the last mesh
  coordinate) each multiply their block of activations by their block of weights; of that product each keeps the half of
  the rows it answers for and sends the other half over in four chunks. Here are the numbers involved (what a chunk holds,
  what the result holds before, between and after the four additions) and the protocol: on each device a barrier cell, four
  send cells and four receive cells, each paid once.
-/
module

public import proofs.«01_k».proof.Defs
public import Idealize.ShloMosaic.Lib.Pipeline.Launch
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Rows

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partner -/

set_option backward.proofsInPublic true in
/-- The device that differs from `c` in the last mesh coordinate only. -/
def pr (c : Dev nD) : Dev nD := ⟨(4 * (c.val / 4) + 2 * ((c.val / 2) % 2) + 1) - (c.val % 2), by have h : c.val < 8 := c.isLt; show _ < 8; omega⟩

/-- The partner's partner is the device itself. -/
theorem pr_pr (c : Dev nD) : pr (pr c) = c := by revert c; decide

/-- A device equals another's partner exactly if the other is its partner. -/
theorem pr_eq_iff (d c : Dev nD) : pr d = c ↔ d = pr c :=
  ⟨fun h => by rw [← h, pr_pr], fun h => by rw [h, pr_pr]⟩

/-- Swapping every device with its partner, as a permutation of the devices. -/
def swap : Dev nD ≃ Dev nD := ⟨pr, pr, pr_pr, pr_pr⟩

/-! ## The numbers -/

section Numbers

-- Each device's block of activations and its block of weights, as the kernel finds them in its two input buffers.
variable (X : Dev nD → Vec F S2x1024x1024 .bf16) (Wt : Dev nD → Vec F S1024x2048 .bf16)

/-- Where the rows of chunk `i` start in a device's activations: batch `i / 2`, in the half the partner answers for. -/
abbrev sendOff (c : Dev nD) (i : ℕ) : Fin 3 → ℕ := ![i / 2 % 2, (256 * (i % 2) + 512) - 512 * (c.val % 2), 0]

/-- The rows of a chunk lie within the activations. -/
theorem sendOff_inb (c : Dev nD) (i : ℕ) : ∀ a, sendOff c i a + S1x256x1024.size a ≤ S2x1024x1024.size a := by
  intro a
  fin_cases a
  · show i / 2 % 2 + 1 ≤ 2; omega
  · show (256 * (i % 2) + 512) - 512 * (c.val % 2) + 256 ≤ 1024; omega
  · show 0 + 1024 ≤ 1024; omega

/-- Where the rows a device keeps of batch `b` start in its activations. -/
abbrev baseOff (c : Dev nD) (b : ℕ) : Fin 3 → ℕ := ![b % 2, 512 * (c.val % 2), 0]

/-- The rows a device keeps lie within the activations. -/
theorem baseOff_inb (c : Dev nD) (b : ℕ) : ∀ a, baseOff c b a + S1x512x1024.size a ≤ S2x1024x1024.size a := by
  intro a
  fin_cases a
  · show b % 2 + 1 ≤ 2; omega
  · show 512 * (c.val % 2) + 512 ≤ 1024; omega
  · show 0 + 1024 ≤ 1024; omega

/-- Where the rows of chunk `i` start in the result. -/
abbrev outOff (i : ℕ) : Fin 3 → ℕ := ![i / 2 % 2, 256 * (i % 2), 0]

/-- The rows of a chunk lie within the result. -/
theorem outOff_inb (i : ℕ) : ∀ a, outOff i a + S1x256x2048.size a ≤ S2x512x2048.size a := by
  intro a
  fin_cases a
  · show i / 2 % 2 + 1 ≤ 2; omega
  · show 256 * (i % 2) + 256 ≤ 512; omega
  · show 0 + 2048 ≤ 2048; omega

/-- The weights as the kernel's own copy holds them. -/
abbrev wbuf (c : Dev nD) : Vec F S1024x2048 .bf16 := k0_pay1 (Wt c)

/-- Chunk `i` of what device `c` sends: 256 rows of the partner's half of its product, rounded. -/
def part (c : Dev nD) (i : ℕ) : Vec F S1x256x2048 .bf16 :=
  k0_pay4 (box (s := S2x1024x1024) (sendOff c i) S1x256x1024.size (sendOff_inb c i) (X c)) (wbuf Wt c)

/-- The place of an element of the four-chunk buffer within its chunk. -/
abbrev inChunk (y : S4x256x2048.Idx) : S1x256x2048.Idx := fun | 0 => (0 : Fin 1) | 1 => y 1 | 2 => y 2

/-- The four chunks device `c` sends, side by side. -/
def sentBuf (c : Dev nD) : Vec F S4x256x2048 .bf16 := fun y => part X Wt c (y 0).val (inChunk y)

/-- Batch `b` of the rows of its own product that device `c` keeps. -/
def baseVec (c : Dev nD) (b : ℕ) : Vec F S1x512x2048 .f32 :=
  k0_pay7 (box (s := S2x1024x1024) (baseOff c b) S1x512x1024.size (baseOff_inb c b) (X c)) (wbuf Wt c)

/-- The place of an element of the result within its batch. -/
abbrev inBatch (y : S2x512x2048.Idx) : S1x512x2048.Idx := fun | 0 => (0 : Fin 1) | 1 => y 1 | 2 => y 2

/-- The rows of its own product that device `c` keeps, both batches. -/
def baseBuf (c : Dev nD) : Vec F S2x512x2048 .f32 := fun y => baseVec X Wt c (y 0).val (inBatch y)

/-- Chunk `i` of the result on device `c`: the rows it kept plus the chunk its partner sent. -/
def outVec (c : Dev nD) (i : ℕ) : Vec F S1x256x2048 .f32 :=
  k0_pay9 (box (s := S2x512x2048) (outOff i) S1x256x2048.size (outOff_inb i) (baseBuf X Wt c)) (part X Wt (pr c) i)

/-- Which chunk an element of the result belongs to, -/
abbrev chunkOf (y : S2x512x2048.Idx) : ℕ := 2 * (y 0).val + (y 1).val / 256

/-- and its place there. -/
abbrev inRows (y : S2x512x2048.Idx) : S1x256x2048.Idx := fun
  | 0 => (0 : Fin 1) | 1 => (⟨(y 1).val % 256, Nat.mod_lt _ (by decide)⟩ : Fin 256) | 2 => y 2

/-- The result after the first `k` chunks have been added. -/
def stepBuf (c : Dev nD) (k : ℕ) : Vec F S2x512x2048 .f32 := fun y =>
  if chunkOf y < k then outVec X Wt c (chunkOf y) (inRows y) else baseBuf X Wt c y

/-- The result: every chunk has been added. -/
abbrev outAt (c : Dev nD) : Vec F S2x512x2048 .f32 := stepBuf X Wt c 4

/-- Before any chunk has been added the result is the rows kept. -/
theorem stepBuf_zero (c : Dev nD) : stepBuf X Wt c 0 = baseBuf X Wt c :=
  funext fun y => if_neg (Nat.not_lt_zero _)

/-- Chunk `i` of the four-chunk buffer is the chunk sent. -/
theorem box_sent (c : Dev nD) (i : ℕ) (inb : ∀ a, (![i, 0, 0] : Fin 3 → ℕ) a + S1x256x2048.size a ≤ S4x256x2048.size a) :
    box (s := S4x256x2048) ![i, 0, 0] S1x256x2048.size inb (sentBuf X Wt c) = part X Wt c i := by
  funext x
  have h0 : ((Rect.unit (s := S4x256x2048) ![i, 0, 0] S1x256x2048.size inb).emb x 0).val = i := by
    rw [emb_val]; have : (x 0).val < 1 := (x 0).isLt; show i + (x 0).val = i; omega
  show part X Wt c ((Rect.unit (s := S4x256x2048) ![i, 0, 0] S1x256x2048.size inb).emb x 0).val (inChunk _) = part X Wt c i x
  rw [h0]
  refine congrArg (part X Wt c i) (funext fun a => Fin.ext ?_)
  fin_cases a
  · have : (x 0).val < 1 := (x 0).isLt; show 0 = (x 0).val; omega
  · show ((Rect.unit (s := S4x256x2048) ![i, 0, 0] S1x256x2048.size inb).emb x 1).val = (x 1).val
    rw [emb_val]; exact Nat.zero_add _
  · show ((Rect.unit (s := S4x256x2048) ![i, 0, 0] S1x256x2048.size inb).emb x 2).val = (x 2).val
    rw [emb_val]; exact Nat.zero_add _

/-- The chunk an element of chunk `i`'s rows of the result belongs to is `i`. -/
theorem chunkOf_emb (i : ℕ) (hi : i < 4) (x : (Rect.unit (s := S2x512x2048) (outOff i) S1x256x2048.size (outOff_inb i)).shape.Idx) :
    chunkOf ((Rect.unit (s := S2x512x2048) (outOff i) S1x256x2048.size (outOff_inb i)).emb x) = i := by
  have h0 : (x 0).val < 1 := (x 0).isLt
  have h1 : (x 1).val < 256 := (x 1).isLt
  show 2 * ((Rect.unit (s := S2x512x2048) (outOff i) S1x256x2048.size (outOff_inb i)).emb x 0).val
    + ((Rect.unit (s := S2x512x2048) (outOff i) S1x256x2048.size (outOff_inb i)).emb x 1).val / 256 = i
  rw [emb_val, emb_val]
  show 2 * (i / 2 % 2 + (x 0).val) + (256 * (i % 2) + (x 1).val) / 256 = i
  omega

/-- An element lies within chunk `i`'s rows of the result exactly if it belongs to chunk `i`. -/
theorem inside_out_iff (i : ℕ) (hi : i < 4) (y : S2x512x2048.Idx) : Inside (s := S2x512x2048) (outOff i) S1x256x2048.size y ↔ chunkOf y = i := by
  have h0 : (y 0).val < 2 := (y 0).isLt
  have h1 : (y 1).val < 512 := (y 1).isLt
  have h2 : (y 2).val < 2048 := (y 2).isLt
  constructor
  · intro h
    have e0 : i / 2 % 2 ≤ (y 0).val ∧ (y 0).val < i / 2 % 2 + 1 := h 0
    have e1 : 256 * (i % 2) ≤ (y 1).val ∧ (y 1).val < 256 * (i % 2) + 256 := h 1
    show 2 * (y 0).val + (y 1).val / 256 = i
    omega
  · intro h a
    have h' : 2 * (y 0).val + (y 1).val / 256 = i := h
    fin_cases a
    · show i / 2 % 2 ≤ (y 0).val ∧ (y 0).val < i / 2 % 2 + 1; omega
    · show 256 * (i % 2) ≤ (y 1).val ∧ (y 1).val < 256 * (i % 2) + 256; omega
    · show 0 ≤ (y 2).val ∧ (y 2).val < 0 + 2048; omega

/-- The rows of a chunk not yet added are still the rows kept. -/
theorem box_step (c : Dev nD) (i : ℕ) (hi : i < 4) :
    box (s := S2x512x2048) (outOff i) S1x256x2048.size (outOff_inb i) (stepBuf X Wt c i) = box (s := S2x512x2048) (outOff i) S1x256x2048.size (outOff_inb i) (baseBuf X Wt c) :=
  funext fun x => if_neg (by rw [chunkOf_emb i hi x]; exact Nat.lt_irrefl _)

end Numbers

/-! ## The buffers and the stores to them -/

/-- The kernel's buffers, whole: the staged activations, the staged weights, the staged result, the weights' copy, the
    chunks to send and the chunks received. -/
abbrev xM : Memref sig .tc .vmem S2x1024x1024 .bf16 := Memref.whole cc0_stg0_0
/-- The right factor, -/
abbrev wM : Memref sig .tc .vmem S1024x2048 .bf16 := Memref.whole cc0_stg1_0
/-- the result, -/
abbrev oM : Memref sig .tc .vmem S2x512x2048 .f32 := Memref.whole cc0_stg2_0
/-- the kernel's own copy of the right factor, -/
abbrev kM : Memref sig .tc .vmem S1024x2048 .bf16 := Memref.whole cc0_scratch0
/-- the chunks to send -/
abbrev sM : Memref sig .tc .vmem S4x256x2048 .bf16 := Memref.whole cc0_scratch1
/-- and those received. -/
abbrev rM : Memref sig .tc .vmem S4x256x2048 .bf16 := Memref.whole cc0_scratch2

/-- One chunk of a four-chunk buffer, as a matrix. -/
abbrev chunk (M : Memref sig .tc .vmem S4x256x2048 .bf16) (i : ℕ)
    (inb : ∀ a, (![i, 0, 0] : Fin 3 → ℕ) a + S1x256x2048.size a ≤ S4x256x2048.size a) : Memref sig .tc .vmem S256x2048 .bf16 :=
  (M.slice (Rect.unit (s := S4x256x2048) ![i, 0, 0] S1x256x2048.size inb) (fun _ => rfl)).squeeze S256x2048 squeezes_S1x256x2048_S256x2048

/-- The elements of chunk `i`. -/
def cset (i : ℕ) : Finset S4x256x2048.Idx := Finset.univ.filter fun y => (y 0).val = i

/-- An element lies in chunk `i` exactly if its first coordinate is `i`. -/
theorem mem_cset (i : ℕ) (y : S4x256x2048.Idx) : y ∈ cset i ↔ (y 0).val = i := by simp [cset]

/-- An element lies within chunk `i`'s box exactly if it is in chunk `i`. -/
theorem inside_chunk_iff (i : ℕ) (y : S4x256x2048.Idx) : Inside (s := S4x256x2048) ![i, 0, 0] S1x256x2048.size y ↔ y ∈ cset i := by
  rw [mem_cset]
  have h1 : (y 1).val < 256 := (y 1).isLt
  have h2 : (y 2).val < 2048 := (y 2).isLt
  constructor
  · intro h
    have e0 : i ≤ (y 0).val ∧ (y 0).val < i + 1 := h 0
    omega
  · intro h a
    fin_cases a
    · show i ≤ (y 0).val ∧ (y 0).val < i + 1; omega
    · show 0 ≤ (y 1).val ∧ (y 1).val < 0 + 256; omega
    · show 0 ≤ (y 2).val ∧ (y 2).val < 0 + 2048; omega

/-- Chunk `i`'s box covers chunk `i`. -/
theorem rect_set (i : ℕ) (inb : ∀ a, (![i, 0, 0] : Fin 3 → ℕ) a + S1x256x2048.size a ≤ S4x256x2048.size a) :
    (Rect.unit (s := S4x256x2048) ![i, 0, 0] S1x256x2048.size inb).set = cset i :=
  Finset.ext fun y => Rect.mem_set_unit.trans (inside_chunk_iff i y)

/-- The chunks' elements are disjoint -/
theorem cset_disjoint (i j : ℕ) (h : i ≠ j) : Disjoint (cset i) (cset j) :=
  Finset.disjoint_left.mpr fun y hi hj => h (((mem_cset i y).mp hi).symm.trans ((mem_cset j y).mp hj))

/-- and together make up the buffer. -/
theorem cset_cover : (Finset.univ : Finset S4x256x2048.Idx) = (Finset.range 4).biUnion cset :=
  (Finset.eq_univ_iff_forall.mpr fun y => Finset.mem_biUnion.mpr ⟨(y 0).val, Finset.mem_range.mpr (y 0).isLt, (mem_cset _ y).mpr rfl⟩).symm

/-- The elements a chunk of the send buffer reaches, -/
theorem s_set (i : ℕ) (inb) : (chunk sM i inb).view.set = cset i := by
  show ((View.slice (View.whole cc0_scratch1) _).reshape _ _).set = _
  rw [View.set_reshape, View.set_slice_whole]; exact rect_set i inb

/-- and of the receive buffer. -/
theorem r_set (i : ℕ) (inb) : (chunk rM i inb).view.set = cset i := by
  show ((View.slice (View.whole cc0_scratch2) _).reshape _ _).set = _
  rw [View.set_reshape, View.set_slice_whole]; exact rect_set i inb

omit [FloatOps F] in
/-- Copying a chunk of the send buffer onto the same chunk of a receive buffer makes the two agree there. -/
theorem landed_eq (i : ℕ) (inb inb') (fd fs : Vec F S4x256x2048 .bf16) (y : S4x256x2048.Idx) (hy : y ∈ cset i) :
    (chunk rM i inb).view.write (Elt F) fd ((chunk sM i inb').view.read (Elt F) fs) Finset.univ y = fs y := by
  rw [← r_set i inb] at hy
  obtain ⟨x, -, rfl⟩ := Finset.mem_map.mp hy
  exact (chunk rM i inb).view.write_emb_of_mem fd _ (Finset.mem_univ x)

/-- What the store of chunk `i` leaves in chunk `i` of the send buffer. -/
theorem stored_eq (X : Dev nD → Vec F S2x1024x1024 .bf16) (Wt : Dev nD → Vec F S1024x2048 .bf16) (c : Dev nD) (i : ℕ)
    (inb : ∀ a, (![i, 0, 0] : Fin 3 → ℕ) a + S1x256x2048.size a ≤ S4x256x2048.size a) (f : Vec F S4x256x2048 .bf16) (y : S4x256x2048.Idx) (hy : y ∈ cset i) :
    (sM.access (Rect.unit (s := S4x256x2048) ![i, 0, 0] S1x256x2048.size inb)).write (Elt F) f (part X Wt c i) Finset.univ y = sentBuf X Wt c y := by
  have hin := (inside_chunk_iff i y).mpr hy
  refine (store_inside cc0_scratch1 ![i, 0, 0] S1x256x2048.size inb f (part X Wt c i) y hin).trans ?_
  rw [← box_sent X Wt c i inb]
  exact congrArg (sentBuf X Wt c) (emb_local _ _ inb y hin)

/-- Storing both batches of the rows kept leaves the rows kept, whatever the result held. -/
theorem base_stored (X : Dev nD → Vec F S2x1024x1024 .bf16) (Wt : Dev nD → Vec F S1024x2048 .bf16) (c : Dev nD) (inb0 inb1) (f : Vec F S2x512x2048 .f32) :
    (oM.access (Rect.unit (s := S2x512x2048) ![1, 0, 0] S1x512x2048.size inb1)).write (Elt F)
      ((oM.access (Rect.unit (s := S2x512x2048) ![0, 0, 0] S1x512x2048.size inb0)).write (Elt F) f (baseVec X Wt c 0) Finset.univ)
      (baseVec X Wt c 1) Finset.univ = stepBuf X Wt c 0 := by
  rw [stepBuf_zero]
  funext y
  have h0 : (y 0).val < 2 := (y 0).isLt
  have h1 : (y 1).val < 512 := (y 1).isLt
  have h2 : (y 2).val < 2048 := (y 2).isLt
  have hin (b : ℕ) (hb : (y 0).val = b) : Inside (s := S2x512x2048) ![b, 0, 0] S1x512x2048.size y := by
    intro a
    fin_cases a
    · show b ≤ (y 0).val ∧ (y 0).val < b + 1; omega
    · show 0 ≤ (y 1).val ∧ (y 1).val < 0 + 512; omega
    · show 0 ≤ (y 2).val ∧ (y 2).val < 0 + 2048; omega
  have hval (b : ℕ) (hb : (y 0).val = b) (inb : ∀ a, (![b, 0, 0] : Fin 3 → ℕ) a + S1x512x2048.size a ≤ S2x512x2048.size a) :
      baseVec X Wt c b (within inb y (hin b hb)) = baseBuf X Wt c y := by
    unfold baseBuf
    rw [hb]
    refine congrArg (baseVec X Wt c b) (funext fun a => Fin.ext ?_)
    fin_cases a
    · show (y 0).val - b = 0; omega
    · show (y 1).val - 0 = (y 1).val; omega
    · show (y 2).val - 0 = (y 2).val; omega
  by_cases h : (y 0).val = 1
  · exact (store_inside cc0_stg2_0 ![1, 0, 0] S1x512x2048.size inb1 _ _ y (hin 1 h)).trans (hval 1 h inb1)
  · refine (store_outside cc0_stg2_0 ![1, 0, 0] S1x512x2048.size inb1 _ _ y fun hi => h ?_).trans ?_
    · have e0 : 1 ≤ (y 0).val ∧ (y 0).val < 1 + 1 := hi 0
      omega
    have h' : (y 0).val = 0 := by omega
    exact (store_inside cc0_stg2_0 ![0, 0, 0] S1x512x2048.size inb0 _ _ y (hin 0 h')).trans (hval 0 h' inb0)

/-- Storing chunk `i` of the result takes the state with `i` chunks added to the state with one more. -/
theorem step_stored (X : Dev nD → Vec F S2x1024x1024 .bf16) (Wt : Dev nD → Vec F S1024x2048 .bf16) (c : Dev nD) (i : ℕ) (hi : i < 4) :
    (oM.access (Rect.unit (s := S2x512x2048) (outOff i) S1x256x2048.size (outOff_inb i))).write (Elt F) (stepBuf X Wt c i) (outVec X Wt c i) Finset.univ
      = stepBuf X Wt c (i + 1) := by
  funext y
  by_cases h : chunkOf y = i
  · have hin := (inside_out_iff i hi y).mpr h
    refine (store_inside cc0_stg2_0 (outOff i) S1x256x2048.size (outOff_inb i) _ _ y hin).trans ?_
    unfold stepBuf
    rw [if_pos (by omega), h]
    refine congrArg (outVec X Wt c i) (funext fun a => Fin.ext ?_)
    have h0 : (y 0).val < 2 := (y 0).isLt
    have h1 : (y 1).val < 512 := (y 1).isLt
    have h' : 2 * (y 0).val + (y 1).val / 256 = i := h
    fin_cases a
    · show (y 0).val - i / 2 % 2 = 0; omega
    · show (y 1).val - 256 * (i % 2) = (y 1).val % 256; omega
    · show (y 2).val - 0 = (y 2).val; omega
  · refine (store_outside cc0_stg2_0 (outOff i) S1x256x2048.size (outOff_inb i) _ _ y fun hin => h ((inside_out_iff i hi y).mp hin)).trans ?_
    unfold stepBuf
    by_cases hlt : chunkOf y < i
    · rw [if_pos hlt, if_pos (by omega)]
    · rw [if_neg hlt, if_neg (by omega)]

end Cert.KernelIdeal.Talk

end
-- ==== Proof.KernelIdealCells.lean ====
/-
  The protocol of the exchange. On every device a barrier cell, four send cells and four receive cells. The barrier unit a
  device gets from its partner comes with the partner's receive buffer; the landing of a chunk gives the receiver its part of
  the receive buffer back, holding what was sent; the read-out of a chunk gives the sender its part of the send buffer back.
-/
module

public import proofs.«01_k».proof.Proof.KernelIdealTalk
public import Idealize.ShloMosaic.Lib.Pipeline.RegionTalk
public import Idealize.ShloMosaic.Lib.Pipeline.Regions
public import Idealize.ShloMosaic.Lib.Pipeline.Kit

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

/-- The resource algebra: the pipeline library's copy and the exchange's. -/
abbrev UU : Type := UR sig nD τ × UR sig nD τ

local notation "𝕄" => MT nD τ sig Unit (Elt F) ℕ UU ℕ

/-- Where the call's own resources lie in the whole program's, -/
abbrev EP : Emb (UR sig nD τ) (MT nD τ sig Unit (Elt F) ℕ UU ℕ) := embL
/-- and where the protocol's lie. -/
abbrev ER : Emb (UR sig nD τ) (MT nD τ sig Unit (Elt F) ℕ UU ℕ) := embR

/-- The barrier semaphore, -/
abbrev barS : Sem sig := sig.barrier 0 rfl

/-- and the kernel's own copy semaphores: numbers 0 to 3 for what it sends, 4 to 7 for what it receives. -/
def dSem (k : ℕ) : DmaSem sig := ⟨(3 + k) % 11, Nat.mod_lt _ (by decide)⟩

/-- Device `c`'s barrier cell, -/
abbrev barCell (c : Dev nD) : GSem nD τ sig := ((c : Thread nD τ), .reg barS)
/-- its send cell of chunk `i` -/
abbrev sCell (c : Dev nD) (i : ℕ) : GSem nD τ sig := ((c : Thread nD τ), .dma (dSem i))
/-- and its receive cell of chunk `i`. -/
abbrev rCell (c : Dev nD) (i : ℕ) : GSem nD τ sig := ((c : Thread nD τ), .dma (dSem (4 + i)))

/-- Which of the eight a semaphore is. -/
theorem dSem_val (k : ℕ) (hk : k < 8) : (dSem k).val = 3 + k := Nat.mod_eq_of_lt (by omega)

/-- Different numbers below eight are different semaphores. -/
theorem dSem_inj (k l : ℕ) (hk : k < 8) (hl : l < 8) (h : dSem k = dSem l) : k = l := by
  have := congrArg Fin.val h
  rw [dSem_val k hk, dSem_val l hl] at this
  omega

/-- A chunk's credit. -/
abbrev N : ℕ := (chunk rM 0 inb_S4x256x2048_S1x256x2048_0_0_0).view.dmaCredit

/-- It is positive, -/
theorem N_pos : 0 < N := View.dmaCredit_pos _ (by decide)

/-- and the same for each chunk of either buffer. -/
theorem credit_r (i : ℕ) (inb) : (chunk rM i inb).view.dmaCredit = N := rfl
/-- A chunk to send is as many units. -/
theorem credit_s (i : ℕ) (inb) : (chunk sM i inb).view.dmaCredit = N := rfl

/-- The conjunction of four. -/
def four (Φ : ℕ → sProp 𝕄) : sProp 𝕄 := iprop(Φ 0 ∗ Φ 1 ∗ Φ 2 ∗ Φ 3)

/-- Four persistent facts are persistent, -/
instance four_persistent (Φ : ℕ → sProp 𝕄) [∀ i, BI.Persistent (Φ i)] : BI.Persistent (four Φ) := by unfold four; infer_instance
/-- and four storable ones storable. -/
instance four_storable (Φ : ℕ → sProp 𝕄) [∀ i, BI.Storable (upEmb : UEmb _ 𝕄) (Φ i)] : BI.Storable (upEmb : UEmb _ 𝕄) (four Φ) := by
  unfold four; infer_instance

/-- Part of device `c`'s send buffer, -/
abbrev sPts (c : Dev nD) (S : Finset S4x256x2048.Idx) (f : Vec F S4x256x2048 .bf16) : sProp 𝕄 := (sM.view.loc (c : Thread nD τ) ↦[S]{fullShare} f)
/-- and of its receive buffer. -/
abbrev rPts (c : Dev nD) (S : Finset S4x256x2048.Idx) (f : Vec F S4x256x2048 .bf16) : sProp 𝕄 := (rM.view.loc (c : Thread nD τ) ↦[S]{fullShare} f)

/-! ## The schedule -/

variable (X : Dev nD → Vec F S2x1024x1024 .bf16) (Wt : Dev nD → Vec F S1024x2048 .bf16)

/-- With its partner's barrier unit device `c` gets the partner's receive buffer, and that its partner's receive cells are open. -/
def barPay (c : Dev nD) : sProp 𝕄 := iprop((∃ f, rPts (pr c) Finset.univ f) ∗ four fun i => reached ER (rCell (pr c) i) 0)

/-- With the landing of chunk `i` its part of the receive buffer, holding the partner's chunk. -/
def recvPay (c : Dev nD) (i : ℕ) : sProp 𝕄 := rPts c (cset i) (sentBuf X Wt (pr c))

/-- With the read-out of chunk `i` its part of the send buffer back. -/
def sendPay (c : Dev nD) (i : ℕ) : sProp 𝕄 := sPts c (cset i) (sentBuf X Wt c)

/-- Which semaphores take part. -/
def talks : SemLoc sig → Bool
  | .reg _ => true
  | .dma q => decide (3 ≤ q.val)

/-- The units of a cell's one duty, -/
def units : SemLoc sig → ℕ
  | .reg _ => 1
  | .dma _ => N

/-- and what comes with it. -/
def pay (c : Dev nD) : SemLoc sig → sProp 𝕄
  | .reg _ => barPay c
  | .dma q => if q.val < 7 then sendPay X Wt c (q.val - 3) else recvPay X Wt c (q.val - 7)

/-- One duty, in round 0, on every cell that takes part. -/
def talkRd : Rounds.Schedule (GSem nD τ sig) Unit 𝕄 where
  duties g r := if r = 0 ∧ g.1.2 = .tc ∧ talks g.2 = true then {()} else ∅
  unitless _ := False
  amount g _ _ := units g.2
  payload g _ _ := pay X Wt g.1.1 g.2
  amount_pos g _ _ _ := by
    unfold units
    split
    · exact Nat.one_pos
    · exact N_pos

/-- The payloads may be kept in an invariant. -/
instance talkRd_payload_storable (g : GSem nD τ sig) (r : ℕ) (d : Unit) :
    BI.Storable (upEmb : UEmb _ 𝕄) ((talkRd X Wt).payload g r d) := by
  show BI.Storable upEmb (pay X Wt g.1.1 g.2)
  unfold pay barPay sendPay recvPay
  (repeat' split) <;> infer_instance

/-- The kernel's own copy semaphores take part. -/
theorem talks_dSem (k : ℕ) (hk : k < 8) : talks (.dma (dSem k)) = true :=
  decide_eq_true (by rw [dSem_val k hk]; omega)

/-- A participating cell has its one duty in round 0, -/
theorem duties_zero (c : Dev nD) (sm : SemLoc sig) (h : talks sm = true) : (talkRd X Wt).duties ((c : Thread nD τ), sm) 0 = {()} := by
  dsimp only [talkRd]; exact if_pos ⟨rfl, rfl, h⟩

/-- and none later. -/
theorem duties_later (g : GSem nD τ sig) : ∀ r, 1 ≤ r → (talkRd X Wt).duties g r = ∅ :=
  fun r hr => by dsimp only [talkRd]; exact if_neg fun h => by omega

/-- What a wait on a participating cell expects is its units. -/
theorem expect_zero (c : Dev nD) (sm : SemLoc sig) (h : talks sm = true) : (talkRd X Wt).expect ((c : Thread nD τ), sm) 0 = units sm := by
  unfold Schedule.expect Schedule.amountOf; rw [duties_zero X Wt c sm h, Finset.sum_singleton]; rfl

/-- The rest of round 0, nothing taken, is the payload. -/
theorem rest_zero (c : Dev nD) (sm : SemLoc sig) (h : talks sm = true) :
    bigSep ((talkRd X Wt).duties ((c : Thread nD τ), sm) 0 \ ∅) (fun u => (talkRd X Wt).payload ((c : Thread nD τ), sm) 0 u) = pay X Wt c sm := by
  rw [Finset.sdiff_empty, duties_zero X Wt c sm h, bigSep_singleton]; rfl

/-- The payload of a send cell, -/
theorem pay_send (c : Dev nD) (i : ℕ) (hi : i < 4) : pay X Wt c (.dma (dSem i)) = sendPay X Wt c i := by
  show (if (dSem i).val < 7 then sendPay X Wt c ((dSem i).val - 3) else recvPay X Wt c ((dSem i).val - 7)) = _
  rw [dSem_val i (by omega), if_pos (by omega), show 3 + i - 3 = i from by omega]

/-- and of a receive cell. -/
theorem pay_recv (c : Dev nD) (i : ℕ) (hi : i < 4) : pay X Wt c (.dma (dSem (4 + i))) = recvPay X Wt c i := by
  show (if (dSem (4 + i)).val < 7 then sendPay X Wt c ((dSem (4 + i)).val - 3) else recvPay X Wt c ((dSem (4 + i)).val - 7)) = _
  rw [dSem_val (4 + i) (by omega), if_neg (by omega), show 3 + (4 + i) - 7 = i from by omega]

/-- A cell whose one round is over closes, its counter at zero. -/
theorem close (κ : ℕ) (g : GSem nD τ sig) :
    iprop(cellInv ER (talkRd X Wt) κ g ∗ atPos ER g (0 + 1) ∅ 0) ⊢ (|={Set.univ}=> semVal g 0 : sProp 𝕄) :=
  Rounds.cell_close ER (talkRd X Wt) (Set.mem_univ κ) id (duties_later X Wt g)

/-! ## What a device owes, and the levels -/

/-- What device `c` owes its partner's receive cells while `n` chunks are still to be sent: the last `n`. -/
def debts (c : Dev nD) : ℕ → CellTallies nD τ sig Unit
  | 0 => 0
  | n + 1 => debts c n + tallyAt (rCell (pr c) (3 - n)) () N

/-- The chunk to be sent next is owed beside the later ones. -/
theorem debts_succ (c : Dev nD) (i n : ℕ) (h : i + n = 3) : debts c (n + 1) = debts c n + tallyAt (rCell (pr c) i) () N := by
  obtain rfl : i = 3 - n := by omega
  rfl

/-- What device `c` owes at first: its partner's four receive cells their chunks' credit, and its partner's barrier a unit. -/
def O₀ (c : Dev nD) : CellTallies nD τ sig Unit := debts c 4 + tallyAt (barCell (pr c)) () 1

/-- Chunks are owed to the partner's receive cells only. -/
theorem debts_pos {c : Dev nD} {n : ℕ} {g : GSem nD τ sig} {u : Unit} (h : 0 < debts c n g u) : ∃ i, i < 4 ∧ g = rCell (pr c) i := by
  induction n with
  | zero => exact absurd h (Nat.lt_irrefl 0)
  | succ n ih =>
    have h' : 0 < debts c n g u + tallyAt (rCell (pr c) (3 - n)) () N g u := h
    rcases Nat.add_pos_iff_pos_or_pos.mp h' with h | h
    · exact ih h
    · rw [tallyAt_apply] at h
      split at h
      · next hg => exact ⟨3 - n, by omega, hg.1⟩
      · exact absurd h (Nat.lt_irrefl 0)

/-- Everything is owed to the partner's receive cells and its barrier. -/
theorem O₀_pos {c : Dev nD} {g : GSem nD τ sig} {u : Unit} (h : 0 < O₀ c g u) : (∃ i, i < 4 ∧ g = rCell (pr c) i) ∨ g = barCell (pr c) := by
  have h' : 0 < debts c 4 g u + tallyAt (barCell (pr c)) () 1 g u := h
  rcases Nat.add_pos_iff_pos_or_pos.mp h' with h | h
  · exact .inl (debts_pos h)
  · rw [tallyAt_apply] at h
    split at h
    · next hg => exact .inr hg.1
    · exact absurd h (Nat.lt_irrefl 0)

/-- Every cell of a TensorCore has the one level index. -/
def L (g : GSem nD τ sig) : Finset Unit := if g.1.2 = .tc then {()} else ∅

/-- A semaphore's level: barriers 1, receive cells 2, the others 0. -/
def lvl : SemLoc sig → ℕ
  | .reg _ => 1
  | .dma q => if 7 ≤ q.val then 2 else 0

/-- A cell's level is its semaphore's. -/
def lv (g : GSem nD τ sig) (_ : Unit) : ℕ := lvl g.2

/-- A cell of another core than a TensorCore has no level index, -/
theorem L_of_ne (g : GSem nD τ sig) (h : g.1.2 ≠ .tc) : L g = ∅ := if_neg h
/-- and one of a TensorCore the one. -/
theorem L_tc (c : Dev nD) (sm : SemLoc sig) : L ((c : Thread nD τ), sm) = {()} := if_pos rfl

/-- The level of a receive cell. -/
theorem lv_recv (c : Dev nD) (i : ℕ) (hi : i < 4) (u : Unit) : lv (rCell c i) u = 2 := by
  show (if 7 ≤ (dSem (4 + i)).val then 2 else 0) = 2
  rw [dSem_val (4 + i) (by omega), if_pos (by omega)]

/-- A device may wait on its barrier while it owes chunks: receive cells are above barriers. -/
theorem mayWait_bar (c : Dev nD) (n : ℕ) : (levAts L lv : sProp 𝕄) ⊢ MayWait (c : Thread nD τ) (.reg barS) () (debts c n) :=
  MayOwe.of_cut (L := L) (lev := lv) 1 (fun p hp => by rw [Finset.mem_singleton.mp hp, L_tc]; exact Finset.mem_singleton_self _)
    (fun g u hg => by obtain ⟨i, -, rfl⟩ := debts_pos hg; rw [L_tc]; exact Finset.mem_singleton_self _)
    (fun p hp => by rw [Finset.mem_singleton.mp hp]; exact Nat.le_refl 1)
    (fun g u hg => by obtain ⟨i, hi, rfl⟩ := debts_pos hg; rw [lv_recv _ _ hi]; decide)

/-- What is owed at first is owed above level 0, where the staging cells are. -/
theorem O₀_above (c : Dev nD) (g : GSem nD τ sig) (u : Unit) (h : 0 < O₀ c g u) : u ∈ L g ∧ 0 < lv g u := by
  rcases O₀_pos h with ⟨i, hi, rfl⟩ | rfl
  · exact ⟨by rw [L_tc]; exact Finset.mem_singleton_self _, by rw [lv_recv _ _ hi]; decide⟩
  · exact ⟨by rw [L_tc]; exact Finset.mem_singleton_self _, Nat.one_pos⟩

/-! ## What a device holds of the protocol -/

/-- The invariants of the cells device `c` touches, at the names `K`: the two barriers, -/
def invs (K : GSem nD τ sig → ℕ) (c : Dev nD) : sProp 𝕄 :=
  iprop((cellInv ER (talkRd X Wt) (K (barCell c)) (barCell c) ∗ cellInv ER (talkRd X Wt) (K (barCell (pr c))) (barCell (pr c)))
    ∗ four fun i => iprop(cellInv ER (talkRd X Wt) (K (sCell c i)) (sCell c i) ∗ cellInv ER (talkRd X Wt) (K (rCell c i)) (rCell c i)
        ∗ cellInv ER (talkRd X Wt) (K (rCell (pr c) i)) (rCell (pr c) i)))

/-- The invariants are shared. -/
instance invs_persistent (K : GSem nD τ sig → ℕ) (c : Dev nD) : BI.Persistent (invs X Wt K c) := by unfold invs; infer_instance

/-- The tokens of the duties device `c` pays: its partner's barrier unit, and per chunk its own send duty and its partner's receive duty. -/
def paying (c : Dev nD) : sProp 𝕄 :=
  iprop(dutyTok ER (barCell (pr c)) 0 () ∗ four fun i => iprop(dutyTok ER (sCell c i) 0 () ∗ dutyTok ER (rCell (pr c) i) 0 ()))

/-- The credit device `c` waits with at first. -/
def credits (c : Dev nD) : sProp 𝕄 := iprop(cred (tallyAt (barCell c) () 1) ∗ four fun i => cred (tallyAt (rCell c i) () N))

/-- From the launch to the call: the invariants; the place on the barrier cell; the right to open the eight others; that the partner's
    barrier is open; the tokens. -/
def ghost (K : GSem nD τ sig → ℕ) (c : Dev nD) : sProp 𝕄 :=
  iprop(invs X Wt K c ∗ atPos ER (barCell c) 0 ∅ 0 ∗ (four fun i => iprop(openTok ER (sCell c i) ∗ openTok ER (rCell c i)))
    ∗ reached ER (barCell (pr c)) 0 ∗ paying c)

/-- Once the eight cells have been opened. -/
def opened (K : GSem nD τ sig → ℕ) (c : Dev nD) : sProp 𝕄 :=
  iprop(invs X Wt K c ∗ atPos ER (barCell c) 0 ∅ 0 ∗ reached ER (barCell (pr c)) 0
    ∗ (four fun i => iprop((atPos ER (sCell c i) 0 ∅ 0 ∗ reached ER (sCell c i) 0) ∗ (atPos ER (rCell c i) 0 ∅ 0 ∗ reached ER (rCell c i) 0)))
    ∗ paying c)

/-- The kernel's body makes no calls. -/
abbrev 𝒱₀ : Variants := Variants.none

end Cert.KernelIdeal.Talk

end
-- ==== Proof.KernelIdealSteps.lean ====
/-
  The kernel's body in steps, each said once for every chunk: multiply 256 rows of the partner's half and send the product
  (four times), wait for a chunk and add it to the result (four times), wait for a chunk to have been read out (four times).
-/
module

public import proofs.«01_k».proof.Proof.KernelIdealCells

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2x1024x1024 .bf16) (Wt : Dev nD → Vec F S1024x2048 .bf16)

/-- A whole buffer of device `c`, at contents `f`. -/
abbrev pt (c : Dev nD) (b : Ref sig .tc) (f : b.ty.Contents (Elt F)) : sProp 𝕄 := ((Memref.whole b).view.loc (c : Thread nD τ) ↦{fullShare} f)

/-- The weakest precondition of a stretch of the body on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- The zero offset of a whole matrix. -/
theorem hz : (![0, 0] : Fin 2 → Nat) = fun _ => 0 := funext fun a => by fin_cases a <;> rfl

/-- Loading the weights' copy whole gives it. -/
theorem load_k (inb) (f : Vec F S1024x2048 .bf16) :
    kM.view.readAt (Elt F) (Rect.unit (s := S1024x2048) ![0, 0] S1024x2048.size inb).toLoadRect f = f :=
  Memref.readAt_unit_zero (Elt F) cc0_scratch0 hz _ f

/-- Loading the weights whole gives them. -/
theorem load_w (inb) (f : Vec F S1024x2048 .bf16) :
    wM.view.readAt (Elt F) (Rect.unit (s := S1024x2048) ![0, 0] S1024x2048.size inb).toLoadRect f = f :=
  Memref.readAt_unit_zero (Elt F) cc0_stg1_0 hz _ f

/-- Storing the weights' copy whole replaces it. -/
theorem store_k (inb) (f w : Vec F S1024x2048 .bf16) :
    (kM.access (Rect.unit (s := S1024x2048) ![0, 0] S1024x2048.size inb)).write (Elt F) f w Finset.univ = w :=
  Memref.write_access_unit_zero_univ (Elt F) cc0_scratch0 hz _ f w

/-- The elements an access to chunk `i` of the send buffer touches, -/
theorem s_access (i : ℕ) (inb) : (sM.access (Rect.unit (s := S4x256x2048) ![i, 0, 0] S1x256x2048.size inb)).set = cset i := by
  show (View.slice (View.whole cc0_scratch1) _).set = _
  rw [View.set_slice_whole]; exact rect_set i inb

/-- and of the receive buffer. -/
theorem r_access (i : ℕ) (inb) : (rM.access (Rect.unit (s := S4x256x2048) ![i, 0, 0] S1x256x2048.size inb)).set = cset i := by
  show (View.slice (View.whole cc0_scratch2) _).set = _
  rw [View.set_slice_whole]; exact rect_set i inb

/-- Holding a chunk of the receive buffer at contents that agree with `g` there is holding it at `g`; -/
theorem rPts_congr (c : Dev nD) (i : ℕ) (f g : Vec F S4x256x2048 .bf16) (h : ∀ y ∈ cset i, f y = g y) : (rPts c (cset i) f : sProp 𝕄) = rPts c (cset i) g :=
  pointsTo_congr h

/-- likewise of the send buffer. -/
theorem sPts_congr (c : Dev nD) (i : ℕ) (f g : Vec F S4x256x2048 .bf16) (h : ∀ y ∈ cset i, f y = g y) : (sPts c (cset i) f : sProp 𝕄) = sPts c (cset i) g :=
  pointsTo_congr h

/-- Sending chunk `i` to the partner: the sender's part of the send buffer goes to its send cell, the partner's part of the receive
    buffer to the partner's receive cell, and the sender owes one chunk less. -/
theorem send_chunk (K : GSem nD τ sig → ℕ) (c : Dev nD) (i n : ℕ) (hn : i + n = 3) (dv : Dev nD) (hdv : dv = pr c)
    {sS rS : DmaSem sig} (hs : sS = dSem i) (hr : rS = dSem (4 + i))
    {inb : ∀ a, (![i, 0, 0] : Fin 3 → ℕ) a + S1x256x2048.size a ≤ S4x256x2048.size a}
    {hsc : (chunk rM i inb : Memref sig (Dev.tc dv : Thread nD τ).2.kind .vmem S256x2048 .bf16).view.ref.isScScratch = false}
    {hsrc : (chunk sM i inb).view.WordExact} {hdst : (chunk rM i inb).view.WordExact}
    {hsem : DmaTarget.Typed .vmem (.dma rS) (.remote (Dev.tc dv : Thread nD τ) (chunk rM i inb : Memref sig .tc .vmem S256x2048 .bf16) (.dma sS) hsc)}
    {α : Type} {Q : α → sProp 𝕄} {k : PUnit → Prog (TpuEff nD τ sig (Elt F) Λ₀ .tc) α} (fd : Vec F S4x256x2048 .bf16) (W : Waits sig Unit) :
    iprop(cellInv ER (talkRd X Wt) (K (sCell c i)) (sCell c i) ∗ cellInv ER (talkRd X Wt) (K (rCell (pr c) i)) (rCell (pr c) i)
        ∗ sPts c (cset i) (sentBuf X Wt c) ∗ rPts (pr c) (cset i) fd ∗ owes (c : Thread nD τ) (debts c (n + 1)) W
        ∗ (dutyTok ER (sCell c i) 0 () ∗ reached ER (sCell c i) 0) ∗ dutyTok ER (rCell (pr c) i) 0 () ∗ reached ER (rCell (pr c) i) 0)
      ⊢ iprop(((cred (tallyAt (sCell c i) () N) ∗ owes (c : Thread nD τ) (debts c n) W) -∗ run c (k ⟨⟩) Q)
          -∗ run c (.op (.enqueueDma (chunk sM i inb) (.remote (Dev.tc dv : Thread nD τ) (chunk rM i inb) (.dma sS) hsc) (.dma rS) hsrc hdst hsem) k) Q) := by
  subst hdv hs hr
  have h8 : i < 8 := by omega
  have hi : i < 4 := by omega
  have H := Rounds.wp_send_pointsTo (defs := defs₀ (F := F)) (Q := Q) (k := k) 𝒱₀ ER (talkRd X Wt) (c : Thread nD τ) none (Γ := PendingWaitsCtx.empty)
    (c' := (pr c : Thread nD τ)) (src := chunk sM i inb) (dst := chunk rM i inb) (hsrc := hsrc) (hdst := hdst) (hsem := hsem)
    (κ₁ := K (sCell c i)) (κ₂ := K (rCell (pr c) i)) (Es := Set.univ)
    (q := fullShare) (fs := sentBuf X Wt c) (r₁ := 0) (r₂ := 0) (d₁ := ()) (d₂ := ()) (fd := fd)
    (by rw [duties_zero X Wt c _ (talks_dSem i h8)]; exact Finset.mem_singleton_self _)
    (by rw [duties_zero X Wt (pr c) _ (talks_dSem (4 + i) (by omega))]; exact Finset.mem_singleton_self _)
    () () N rfl rfl rfl (debts c n) (debts_succ c i n hn) (W := W)
    (by
      show _ ⊢ pay X Wt c (.dma (dSem i))
      rw [pay_send X Wt c i hi, s_set i inb]
      exact BI.Entails.refl _)
    (by
      show _ ⊢ pay X Wt (pr c) (.dma (dSem (4 + i)))
      rw [pay_recv X Wt (pr c) i hi, r_set i inb]
      unfold recvPay
      rw [pr_pr]
      exact Entails.of_eq (rPts_congr (pr c) i _ _ fun y hy => landed_eq i inb inb fd (sentBuf X Wt c) y hy))
  rw [s_set i inb, r_set i inb] at H
  iintro ⟨H1, H2, H3, H4, H5, ⟨H6, H7⟩, H8, H9⟩
  iapply H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The send buffer's chunk `i` after the store of the product there. -/
theorem s_stored (c : Dev nD) (i : ℕ) (inb : ∀ a, (![i, 0, 0] : Fin 3 → ℕ) a + S1x256x2048.size a ≤ S4x256x2048.size a) (f : Vec F S4x256x2048 .bf16) :
    ((sM.access (Rect.unit (s := S4x256x2048) ![i, 0, 0] S1x256x2048.size inb)).loc (c : Thread nD τ) ↦[cset i]{fullShare}
        (sM.access (Rect.unit (s := S4x256x2048) ![i, 0, 0] S1x256x2048.size inb)).write (Elt F) f (part X Wt c i) Finset.univ)
      ⊢ (sPts c (cset i) (sentBuf X Wt c) : sProp 𝕄) :=
  Entails.of_eq (sPts_congr c i _ (sentBuf X Wt c) fun y hy => stored_eq X Wt c i inb f y hy)

/-- A chunk's product put into the send buffer and sent. -/
theorem put_step (K : GSem nD τ sig → ℕ) (c : Dev nD) (i n : ℕ) (hn : i + n = 3) (dv : Dev nD) (hdv : dv = pr c)
    {sS rS : DmaSem sig} (hs : sS = dSem i) (hr : rS = dSem (4 + i)) (v : FVec F S1x256x2048 .bf16) (hv : v = part X Wt c i)
    {inb : ∀ a, (![i, 0, 0] : Fin 3 → ℕ) a + S1x256x2048.size a ≤ S4x256x2048.size a}
    {hlS : sM.view.LoadsAt (Rect.unit (s := S4x256x2048) ![i, 0, 0] S1x256x2048.size inb).toLoadRect}
    {hst : (sM.access (Rect.unit (s := S4x256x2048) ![i, 0, 0] S1x256x2048.size inb)).Stores Finset.univ}
    {hm : Finset.univ = Finset.univ ∨ ∀ a, (Rect.unit (s := S4x256x2048) ![i, 0, 0] S1x256x2048.size inb).stride a = 1}
    {hsc : (chunk rM i inb : Memref sig (Dev.tc dv : Thread nD τ).2.kind .vmem S256x2048 .bf16).view.ref.isScScratch = false}
    {hsrc : (chunk sM i inb).view.WordExact} {hdst : (chunk rM i inb).view.WordExact}
    {hsem : DmaTarget.Typed .vmem (.dma rS) (.remote (Dev.tc dv : Thread nD τ) (chunk rM i inb : Memref sig .tc .vmem S256x2048 .bf16) (.dma sS) hsc)}
    {α : Type} {Q : α → sProp 𝕄} {k : PUnit → Prog (TpuEff nD τ sig (Elt F) Λ₀ .tc) α} (f fd : Vec F S4x256x2048 .bf16) (W : Waits sig Unit) :
    iprop(cellInv ER (talkRd X Wt) (K (sCell c i)) (sCell c i) ∗ cellInv ER (talkRd X Wt) (K (rCell (pr c) i)) (rCell (pr c) i)
        ∗ sPts c (cset i) f ∗ rPts (pr c) (cset i) fd ∗ owes (c : Thread nD τ) (debts c (n + 1)) W
        ∗ (dutyTok ER (sCell c i) 0 () ∗ reached ER (sCell c i) 0) ∗ dutyTok ER (rCell (pr c) i) 0 () ∗ reached ER (rCell (pr c) i) 0)
      ⊢ iprop(((cred (tallyAt (sCell c i) () N) ∗ owes (c : Thread nD τ) (debts c n) W) -∗ run c (k ⟨⟩) Q)
          -∗ run c (.op (.load sM (Rect.unit (s := S4x256x2048) ![i, 0, 0] S1x256x2048.size inb).toLoadRect hlS) fun _ =>
              .op (.store sM (Rect.unit (s := S4x256x2048) ![i, 0, 0] S1x256x2048.size inb) v Finset.univ hst hm) fun _ =>
              .op (.enqueueDma (chunk sM i inb) (.remote (Dev.tc dv : Thread nD τ) (chunk rM i inb) (.dma sS) hsc) (.dma rS) hsrc hdst hsem) k) Q) := by
  subst hv
  iintro ⟨HI, HJ, Hs, Hr, HO, Ht, Htr, Hrr⟩ Hcont
  iapply (wp_load_rect 𝒱₀ (c : Thread nD τ) none Set.univ (m := sM) (s_access i inb).subset) $$ Hs; iintro Hs
  iapply (wp_store 𝒱₀ (c : Thread nD τ) none Set.univ (m := sM) (r := Rect.unit (s := S4x256x2048) ![i, 0, 0] S1x256x2048.size inb) (Mk := Finset.univ)
    (s_access i inb).subset) $$ Hs; iintro Hs
  ihave Hs' := (s_stored X Wt c i inb f) $$ Hs
  iapply (send_chunk X Wt K c i n hn dv hdv hs hr fd W) $$ [HI HJ Hs' Hr HO Ht Htr Hrr]
  · isplitl [HI]; · iexact HI
    isplitl [HJ]; · iexact HJ
    isplitl [Hs']; · iexact Hs'
    isplitl [Hr]; · iexact Hr
    isplitl [HO]; · iexact HO
    isplitl [Ht]; · iexact Ht
    isplitl [Htr] <;> iassumption
  iexact Hcont

/-- What a chunk's two loads give is the product. -/
theorem part_of_loads (c : Dev nD) (i : ℕ) (off : Fin 3 → ℕ) (hoff : off = sendOff c i)
    (py : Vec F S1x256x1024 .bf16 → Vec F S1024x2048 .bf16 → FVec F S1x256x2048 .bf16) (hpy : py = k0_pay4) (inbX inbK) :
    py (xM.view.readAt (Elt F) (Rect.unit (s := S2x1024x1024) off S1x256x1024.size inbX).toLoadRect (X c))
        (kM.view.readAt (Elt F) (Rect.unit (s := S1024x2048) ![0, 0] S1024x2048.size inbK).toLoadRect (wbuf Wt c)) = part X Wt c i := by
  subst hoff hpy
  rw [load_k]
  rfl

/-- One chunk, from the loads to the send. -/
theorem chunk_step (K : GSem nD τ sig → ℕ) (c : Dev nD) (i n : ℕ) (hn : i + n = 3) (dv : Dev nD) (hdv : dv = pr c)
    {sS rS : DmaSem sig} (hs : sS = dSem i) (hr : rS = dSem (4 + i))
    (off : Fin 3 → ℕ) (hoff : off = sendOff c i) (py : Vec F S1x256x1024 .bf16 → Vec F S1024x2048 .bf16 → FVec F S1x256x2048 .bf16) (hpy : py = k0_pay4)
    {inbX : ∀ a, off a + S1x256x1024.size a ≤ S2x1024x1024.size a} {inbK : ∀ a, (![0, 0] : Fin 2 → ℕ) a + S1024x2048.size a ≤ S1024x2048.size a}
    {inb : ∀ a, (![i, 0, 0] : Fin 3 → ℕ) a + S1x256x2048.size a ≤ S4x256x2048.size a}
    {hlX : xM.view.LoadsAt (Rect.unit (s := S2x1024x1024) off S1x256x1024.size inbX).toLoadRect}
    {hlK : kM.view.LoadsAt (Rect.unit (s := S1024x2048) ![0, 0] S1024x2048.size inbK).toLoadRect}
    {hlS : sM.view.LoadsAt (Rect.unit (s := S4x256x2048) ![i, 0, 0] S1x256x2048.size inb).toLoadRect}
    {hst : (sM.access (Rect.unit (s := S4x256x2048) ![i, 0, 0] S1x256x2048.size inb)).Stores Finset.univ}
    {hm : Finset.univ = Finset.univ ∨ ∀ a, (Rect.unit (s := S4x256x2048) ![i, 0, 0] S1x256x2048.size inb).stride a = 1}
    {hsc : (chunk rM i inb : Memref sig (Dev.tc dv : Thread nD τ).2.kind .vmem S256x2048 .bf16).view.ref.isScScratch = false}
    {hsrc : (chunk sM i inb).view.WordExact} {hdst : (chunk rM i inb).view.WordExact}
    {hsem : DmaTarget.Typed .vmem (.dma rS) (.remote (Dev.tc dv : Thread nD τ) (chunk rM i inb : Memref sig .tc .vmem S256x2048 .bf16) (.dma sS) hsc)}
    {α : Type} {Q : α → sProp 𝕄} {k : PUnit → Prog (TpuEff nD τ sig (Elt F) Λ₀ .tc) α} (f fd : Vec F S4x256x2048 .bf16) (W : Waits sig Unit) :
    iprop(cellInv ER (talkRd X Wt) (K (sCell c i)) (sCell c i) ∗ cellInv ER (talkRd X Wt) (K (rCell (pr c) i)) (rCell (pr c) i)
        ∗ pt c cc0_stg0_0 (X c) ∗ pt c cc0_scratch0 (wbuf Wt c)
        ∗ sPts c (cset i) f ∗ rPts (pr c) (cset i) fd ∗ owes (c : Thread nD τ) (debts c (n + 1)) W
        ∗ (dutyTok ER (sCell c i) 0 () ∗ reached ER (sCell c i) 0) ∗ dutyTok ER (rCell (pr c) i) 0 () ∗ reached ER (rCell (pr c) i) 0)
      ⊢ iprop((((pt c cc0_stg0_0 (X c) ∗ pt c cc0_scratch0 (wbuf Wt c)) ∗ cred (tallyAt (sCell c i) () N) ∗ owes (c : Thread nD τ) (debts c n) W)
            -∗ run c (k ⟨⟩) Q)
          -∗ run c (.op (.load xM (Rect.unit (s := S2x1024x1024) off S1x256x1024.size inbX).toLoadRect hlX) fun v =>
              .op (.load kM (Rect.unit (s := S1024x2048) ![0, 0] S1024x2048.size inbK).toLoadRect hlK) fun w =>
              .op (.load sM (Rect.unit (s := S4x256x2048) ![i, 0, 0] S1x256x2048.size inb).toLoadRect hlS) fun _ =>
              .op (.store sM (Rect.unit (s := S4x256x2048) ![i, 0, 0] S1x256x2048.size inb) (py v w) Finset.univ hst hm) fun _ =>
              .op (.enqueueDma (chunk sM i inb) (.remote (Dev.tc dv : Thread nD τ) (chunk rM i inb) (.dma sS) hsc) (.dma rS) hsrc hdst hsem) k) Q) := by
  iintro ⟨HI, HJ, Hx, Hk, Hs, Hr, HO, Ht, Htr, Hrr⟩ Hcont
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hk; iintro Hk
  iapply (put_step X Wt K c i n hn dv hdv hs hr _ (part_of_loads X Wt c i off hoff py hpy inbX inbK) f fd W) $$ [HI HJ Hs Hr HO Ht Htr Hrr]
  · isplitl [HI]; · iexact HI
    isplitl [HJ]; · iexact HJ
    isplitl [Hs]; · iexact Hs
    isplitl [Hr]; · iexact Hr
    isplitl [HO]; · iexact HO
    isplitl [Ht]; · iexact Ht
    isplitl [Htr] <;> iassumption
  iintro ⟨Hc, HO⟩
  iapply Hcont
  isplitl [Hx Hk]
  · isplitl [Hx] <;> iassumption
  isplitl [Hc] <;> iassumption

/-- A wait on a copy semaphore of the exchange, nothing owed: the payload comes. -/
theorem wait_cell (κ : ℕ) (c : Dev nD) (j : ℕ) (hj : j < 8) {q : DmaSem sig} (hq : q = dSem j) {s s' : Shape} {src : Memref sig .tc .vmem s .bf16} {dst : Memref sig .tc .vmem s' .bf16}
    (hN : dst.view.dmaCredit = N) {h1 : src.view.WordExact} {h2 : dst.view.WordExact}
    {α : Type} {Q : α → sProp 𝕄} {k : PUnit → Prog (TpuEff nD τ sig (Elt F) Λ₀ .tc) α} (W : Waits sig Unit) :
    iprop(cellInv ER (talkRd X Wt) κ (sCell c j) ∗ cred (tallyAt (sCell c j) () N) ∗ owes (c : Thread nD τ) 0 W ∗ atPos ER (sCell c j) 0 ∅ 0)
      ⊢ iprop(((owes (c : Thread nD τ) 0 (insert (SemLoc.dma (dSem j), ()) W) ∗ atPos ER (sCell c j) (0 + 1) ∅ 0 ∗ pay X Wt c (.dma (dSem j))) -∗ run c (k ⟨⟩) Q)
          -∗ run c (.op (.waitDma2 q src dst h1 h2) k) Q) := by
  subst hq
  iintro ⟨HI, Hc, HO, Hat⟩ Hcont
  iapply (Rounds.wp_wait_rest_token 𝒱₀ ER (talkRd X Wt) (c : Thread nD τ) none (κ := κ)
      (wpE_waitDma2_eq 𝒱₀ (c : Thread nD τ) none Set.univ) (Set.mem_univ _) () (O := 0) (W := W) (R := 0) (m := 0) (T := ∅)
      (by rw [Nat.zero_add, expect_zero X Wt c _ (talks_dSem j hj)]; exact hN)) $$ [HI Hc HO Hat]
  · isplitl [HI]; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_zero X Wt c _ (talks_dSem j hj))) $$ Hpay
  iapply Hcont
  isplitl [HO]; · iexact HO
  isplitl [Hat] <;> iassumption

/-- One chunk received: wait for it, add it to the rows kept. -/
theorem recv_step (K : GSem nD τ sig → ℕ) (c : Dev nD) (i : ℕ) (hi : i < 4) {rS : DmaSem sig} (hr : rS = dSem (4 + i))
    (off : Fin 3 → ℕ) (hoff : off = outOff i) (py : Vec F S1x256x2048 .f32 → Vec F S1x256x2048 .bf16 → FVec F S1x256x2048 .f32) (hpy : py = k0_pay9)
    {inbO : ∀ a, off a + S1x256x2048.size a ≤ S2x512x2048.size a}
    {inb : ∀ a, (![i, 0, 0] : Fin 3 → ℕ) a + S1x256x2048.size a ≤ S4x256x2048.size a}
    {h1 : (chunk sM i inb).view.WordExact} {h2 : (chunk rM i inb).view.WordExact}
    {hlO hlO' : oM.view.LoadsAt (Rect.unit (s := S2x512x2048) off S1x256x2048.size inbO).toLoadRect}
    {hlR : rM.view.LoadsAt (Rect.unit (s := S4x256x2048) ![i, 0, 0] S1x256x2048.size inb).toLoadRect}
    {hst : (oM.access (Rect.unit (s := S2x512x2048) off S1x256x2048.size inbO)).Stores Finset.univ}
    {hm : Finset.univ = Finset.univ ∨ ∀ a, (Rect.unit (s := S2x512x2048) off S1x256x2048.size inbO).stride a = 1}
    {α : Type} {Q : α → sProp 𝕄} {k : PUnit → Prog (TpuEff nD τ sig (Elt F) Λ₀ .tc) α} (W : Waits sig Unit) :
    iprop(cellInv ER (talkRd X Wt) (K (rCell c i)) (rCell c i) ∗ cred (tallyAt (rCell c i) () N) ∗ owes (c : Thread nD τ) 0 W ∗ atPos ER (rCell c i) 0 ∅ 0
        ∗ pt c cc0_stg2_0 (stepBuf X Wt c i))
      ⊢ iprop(((owes (c : Thread nD τ) 0 (insert (SemLoc.dma (dSem (4 + i)), ()) W) ∗ atPos ER (rCell c i) (0 + 1) ∅ 0
              ∗ pt c cc0_stg2_0 (stepBuf X Wt c (i + 1)) ∗ rPts c (cset i) (sentBuf X Wt (pr c))) -∗ run c (k ⟨⟩) Q)
          -∗ run c (.op (.waitDma2 rS (chunk sM i inb) (chunk rM i inb) h1 h2) fun _ =>
              .op (.load oM (Rect.unit (s := S2x512x2048) off S1x256x2048.size inbO).toLoadRect hlO) fun v =>
              .op (.load rM (Rect.unit (s := S4x256x2048) ![i, 0, 0] S1x256x2048.size inb).toLoadRect hlR) fun r =>
              .op (.load oM (Rect.unit (s := S2x512x2048) off S1x256x2048.size inbO).toLoadRect hlO') fun _ =>
              .op (.store oM (Rect.unit (s := S2x512x2048) off S1x256x2048.size inbO) (py v r) Finset.univ hst hm) k) Q) := by
  subst hoff hpy
  iintro ⟨HI, Hc, HO, Hat, Ho⟩ Hcont
  iapply (wait_cell X Wt (K (rCell c i)) c (4 + i) (by omega) hr (src := chunk sM i inb) (dst := chunk rM i inb) (credit_r i inb) (h1 := h1) (h2 := h2) W) $$ [HI Hc HO Hat]
  · isplitl [HI]; · iexact HI
    isplitl [Hc]; · iexact Hc
    isplitl [HO] <;> iassumption
  iintro ⟨HO, Hat, Hp⟩
  ihave Hr := (Entails.of_eq ((pay_recv X Wt c i hi).trans (by unfold recvPay; rfl))) $$ Hp
  iapply (wp_load 𝒱₀ (c : Thread nD τ) none Set.univ (m := oM) (Finset.subset_univ _)) $$ Ho; iintro Ho
  iapply (wp_load_rect 𝒱₀ (c : Thread nD τ) none Set.univ (m := rM) (r := Rect.unit (s := S4x256x2048) ![i, 0, 0] S1x256x2048.size inb) (r_access i inb).subset) $$ Hr
  iintro Hr
  iapply (wp_load 𝒱₀ (c : Thread nD τ) none Set.univ (m := oM) (Finset.subset_univ _)) $$ Ho; iintro Ho
  iapply (wp_store 𝒱₀ (c : Thread nD τ) none Set.univ (m := oM) (r := Rect.unit (s := S2x512x2048) (outOff i) S1x256x2048.size inbO) (Mk := Finset.univ)
    (Finset.subset_univ _)) $$ Ho; iintro Ho
  have hv : k0_pay9 (oM.view.readAt (Elt F) (Rect.unit (s := S2x512x2048) (outOff i) S1x256x2048.size inbO).toLoadRect (stepBuf X Wt c i))
      ((rM.access (Rect.unit (s := S4x256x2048) ![i, 0, 0] S1x256x2048.size inb)).read (Elt F) (sentBuf X Wt (pr c))) = outVec X Wt c i := by
    unfold outVec
    rw [← box_step X Wt c i hi, ← box_sent X Wt (pr c) i inb]
    rfl
  iapply Hcont
  isplitl [HO]; · iexact HO
  isplitl [Hat]; · iexact Hat
  isplitl [Ho]
  · rw [← step_stored X Wt c i hi, ← hv]; iexact Ho
  iexact Hr

/-- One send drained: its part of the send buffer comes back. -/
theorem drain_step (K : GSem nD τ sig → ℕ) (c : Dev nD) (i : ℕ) (hi : i < 4) {sS : DmaSem sig} (hs : sS = dSem i)
    {inb : ∀ a, (![i, 0, 0] : Fin 3 → ℕ) a + S1x256x2048.size a ≤ S4x256x2048.size a}
    {h1 : (chunk rM i inb).view.WordExact} {h2 : (chunk sM i inb).view.WordExact}
    {α : Type} {Q : α → sProp 𝕄} {k : PUnit → Prog (TpuEff nD τ sig (Elt F) Λ₀ .tc) α} (W : Waits sig Unit) :
    iprop(cellInv ER (talkRd X Wt) (K (sCell c i)) (sCell c i) ∗ cred (tallyAt (sCell c i) () N) ∗ owes (c : Thread nD τ) 0 W ∗ atPos ER (sCell c i) 0 ∅ 0)
      ⊢ iprop(((owes (c : Thread nD τ) 0 (insert (SemLoc.dma (dSem i), ()) W) ∗ atPos ER (sCell c i) (0 + 1) ∅ 0
              ∗ sPts c (cset i) (sentBuf X Wt c)) -∗ run c (k ⟨⟩) Q)
          -∗ run c (.op (.waitDma2 sS (chunk rM i inb) (chunk sM i inb) h1 h2) k) Q) := by
  iintro ⟨HI, Hc, HO, Hat⟩ Hcont
  iapply (wait_cell X Wt (K (sCell c i)) c i (by omega) hs (src := chunk rM i inb) (dst := chunk sM i inb) (credit_s i inb) (h1 := h1) (h2 := h2) W) $$ [HI Hc HO Hat]
  · isplitl [HI]; · iexact HI
    isplitl [Hc]; · iexact Hc
    isplitl [HO] <;> iassumption
  iintro ⟨HO, Hat, Hp⟩
  ihave Hs := (Entails.of_eq ((pay_send X Wt c i hi).trans (by unfold sendPay; rfl))) $$ Hp
  iapply Hcont
  isplitl [HO]; · iexact HO
  isplitl [Hat] <;> iassumption

/-- A four-chunk send buffer held whole is held chunk by chunk, -/
theorem sPts_four (c : Dev nD) (f : Vec F S4x256x2048 .bf16) : (sPts c Finset.univ f : sProp 𝕄) = four fun i => sPts c (cset i) f := by
  unfold sPts four
  rw [cset_cover, pointsTo_biUnion _ _ (fun i _ j _ h => cset_disjoint i j h)]
  rw [show Finset.range 4 = {0, 1, 2, 3} from by decide, bigSep_insert (by decide), bigSep_insert (by decide), bigSep_insert (by decide), bigSep_singleton]
  rfl

/-- and a receive buffer. -/
theorem rPts_four (c : Dev nD) (f : Vec F S4x256x2048 .bf16) : (rPts c Finset.univ f : sProp 𝕄) = four fun i => rPts c (cset i) f := by
  unfold rPts four
  rw [cset_cover, pointsTo_biUnion _ _ (fun i _ j _ h => cset_disjoint i j h)]
  rw [show Finset.range 4 = {0, 1, 2, 3} from by decide, bigSep_insert (by decide), bigSep_insert (by decide), bigSep_insert (by decide), bigSep_singleton]
  rfl

end Cert.KernelIdeal.Talk

end
-- ==== Proof.KernelIdealBody.lean ====
/-
  The kernel's body on one device, run from its start to its return: barrier, four chunks sent, the rows kept computed, four
  chunks received and added, four sends drained, the nine cells closed.
-/
module

public import proofs.«01_k».proof.Proof.KernelIdealSteps

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2x1024x1024 .bf16) (Wt : Dev nD → Vec F S1024x2048 .bf16)

/-- One batch of the rows kept, from the loads to the store. -/
theorem base_step (c : Dev nD) (b : ℕ) (off : Fin 3 → ℕ) (hoff : off = baseOff c b)
    (py : Vec F S1x512x1024 .bf16 → Vec F S1024x2048 .bf16 → FVec F S1x512x2048 .f32) (hpy : py = k0_pay7)
    {inbX : ∀ a, off a + S1x512x1024.size a ≤ S2x1024x1024.size a} {inbK : ∀ a, (![0, 0] : Fin 2 → ℕ) a + S1024x2048.size a ≤ S1024x2048.size a}
    {inb : ∀ a, (![b, 0, 0] : Fin 3 → ℕ) a + S1x512x2048.size a ≤ S2x512x2048.size a}
    {hlX : xM.view.LoadsAt (Rect.unit (s := S2x1024x1024) off S1x512x1024.size inbX).toLoadRect}
    {hlK : kM.view.LoadsAt (Rect.unit (s := S1024x2048) ![0, 0] S1024x2048.size inbK).toLoadRect}
    {hlO : oM.view.LoadsAt (Rect.unit (s := S2x512x2048) ![b, 0, 0] S1x512x2048.size inb).toLoadRect}
    {hst : (oM.access (Rect.unit (s := S2x512x2048) ![b, 0, 0] S1x512x2048.size inb)).Stores Finset.univ}
    {hm : Finset.univ = Finset.univ ∨ ∀ a, (Rect.unit (s := S2x512x2048) ![b, 0, 0] S1x512x2048.size inb).stride a = 1}
    {α : Type} {Q : α → sProp 𝕄} {k : PUnit → Prog (TpuEff nD τ sig (Elt F) Λ₀ .tc) α} (f : Vec F S2x512x2048 .f32) :
    iprop(pt c cc0_stg0_0 (X c) ∗ pt c cc0_scratch0 (wbuf Wt c) ∗ pt c cc0_stg2_0 f)
      ⊢ iprop(((pt c cc0_stg0_0 (X c) ∗ pt c cc0_scratch0 (wbuf Wt c)
              ∗ pt c cc0_stg2_0 ((oM.access (Rect.unit (s := S2x512x2048) ![b, 0, 0] S1x512x2048.size inb)).write (Elt F) f (baseVec X Wt c b) Finset.univ))
            -∗ run c (k ⟨⟩) Q)
          -∗ run c (.op (.load xM (Rect.unit (s := S2x1024x1024) off S1x512x1024.size inbX).toLoadRect hlX) fun v =>
              .op (.load kM (Rect.unit (s := S1024x2048) ![0, 0] S1024x2048.size inbK).toLoadRect hlK) fun w =>
              .op (.load oM (Rect.unit (s := S2x512x2048) ![b, 0, 0] S1x512x2048.size inb).toLoadRect hlO) fun _ =>
              .op (.store oM (Rect.unit (s := S2x512x2048) ![b, 0, 0] S1x512x2048.size inb) (py v w) Finset.univ hst hm) k) Q) := by
  subst hoff hpy
  iintro ⟨Hx, Hk, Ho⟩ Hcont
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hk; iintro Hk
  rw [load_k, show k0_pay7 (xM.view.readAt (Elt F) (Rect.unit (s := S2x1024x1024) (baseOff c b) S1x512x1024.size inbX).toLoadRect (X c)) (wbuf Wt c)
    = baseVec X Wt c b from rfl]
  iapply (wp_load 𝒱₀ (c : Thread nD τ) none Set.univ (m := oM) (Finset.subset_univ _)) $$ Ho; iintro Ho
  iapply (wp_store 𝒱₀ (c : Thread nD τ) none Set.univ (m := oM) (r := Rect.unit (s := S2x512x2048) ![b, 0, 0] S1x512x2048.size inb) (Mk := Finset.univ)
    (Finset.subset_univ _)) $$ Ho; iintro Ho
  iapply Hcont
  isplitl [Hx]; · iexact Hx
  isplitl [Hk] <;> iassumption

/-- The barrier: the partner's cell raised, this device's own waited for; the partner's receive buffer comes. -/
theorem bar_step (K : GSem nD τ sig → ℕ) (c dv : Dev nD) (hdv : dv = pr c)
    {α : Type} {Q : α → sProp 𝕄} {k : PUnit → Prog (TpuEff nD τ sig (Elt F) Λ₀ .tc) α} (W : Waits sig Unit) :
    iprop((cellInv ER (talkRd X Wt) (K (barCell c)) (barCell c) ∗ cellInv ER (talkRd X Wt) (K (barCell (pr c))) (barCell (pr c)))
        ∗ owes (c : Thread nD τ) (O₀ c) W ∗ dutyTok ER (barCell (pr c)) 0 () ∗ ((∃ f, rPts c Finset.univ f) ∗ four fun i => reached ER (rCell c i) 0)
        ∗ reached ER (barCell (pr c)) 0 ∗ cred (tallyAt (barCell c) () 1) ∗ levAts L lv ∗ atPos ER (barCell c) 0 ∅ 0)
      ⊢ iprop(((owes (c : Thread nD τ) (debts c 4) (insert (SemLoc.reg barS, ()) W) ∗ atPos ER (barCell c) (0 + 1) ∅ 0
              ∗ ((∃ f, rPts (pr c) Finset.univ f) ∗ four fun i => reached ER (rCell (pr c) i) 0)) -∗ run c (k ⟨⟩) Q)
          -∗ run c (.op (.semSignal (Dev.tc dv : Thread nD τ) barS 1) fun _ => .op (.semWait barS 1) k) Q) := by
  subst hdv
  have htB : talks (.reg barS) = true := rfl
  iintro ⟨⟨HI, HJ⟩, HO, Ht, Hp, Hr, Hc, Hl, Hat⟩ Hcont
  iapply (Rounds.wp_signal 𝒱₀ ER (talkRd X Wt) (c : Thread nD τ) none (dst := (pr c : Thread nD τ)) (κ := K (barCell (pr c)))
    (r := 0) (d := ()) (k' := 1) (by rw [duties_zero X Wt (pr c) _ htB]; exact Finset.mem_singleton_self _) rfl () (debts c 4) rfl) $$ [HJ HO Ht Hp Hr]
  · isplitl [HJ]; · iexact HJ
    isplitl [HO]; · iexact HO
    isplitl [Ht]; · iexact Ht
    isplitl [Hp]
    · rw [show (talkRd X Wt).payload ((pr c : Thread nD τ), .reg barS) 0 ()
        = iprop((∃ f, rPts (pr (pr c)) Finset.univ f) ∗ four fun i => reached ER (rCell (pr (pr c)) i) 0) from rfl, pr_pr]
      iexact Hp
    iexact Hr
  iintro HO
  iapply (Rounds.wp_wait_rest_token 𝒱₀ ER (talkRd X Wt) (c : Thread nD τ) none (κ := K (barCell c))
      (wpE_semWait_eq 𝒱₀ (c : Thread nD τ) none Set.univ) (Set.mem_univ _) () (O := debts c 4) (W := W) (R := 0) (m := 0) (T := ∅)
      (by rw [Nat.zero_add, expect_zero X Wt c _ htB]; rfl)) $$ [HI Hc HO Hl Hat]
  · isplitl [HI]; · iexact HI
    isplitl [Hc]; · iexact Hc
    isplitl [HO]; · iexact HO
    isplitl [Hl]; · iapply (mayWait_bar c 4); iexact Hl
    iexact Hat
  iintro ⟨HO, Hat, -, Hpay⟩
  ihave Hp := (Entails.of_eq ((rest_zero X Wt c _ htB).trans (show pay X Wt c (.reg barS)
    = iprop((∃ f, rPts (pr c) Finset.univ f) ∗ four fun i => reached ER (rCell (pr c) i) 0) from rfl))) $$ Hpay
  iapply Hcont
  isplitl [HO]; · iexact HO
  isplitl [Hat] <;> iassumption

/-- The kernel's own names for the send semaphores, -/
abbrev sSem (i : ℕ) (inb : ∀ a, (![i] : Fin 1 → ℕ) a + S1.size a ≤ S4.size a) : DmaSem sig :=
  ((cc0_scratch3.slice (Rect.unit (s := S4) ![i] S1.size inb)).squeeze S_ squeezes_S1_S_).sem

/-- and for the receive semaphores. -/
abbrev rSem (i : ℕ) (inb : ∀ a, (![i] : Fin 1 → ℕ) a + S1.size a ≤ S4.size a) : DmaSem sig :=
  ((cc0_scratch4.slice (Rect.unit (s := S4) ![i] S1.size inb)).squeeze S_ squeezes_S1_S_).sem

/-- Every send semaphore is the protocol's, -/
theorem sSem_eq : ∀ (i : Fin 4) (inb), sSem i.val inb = dSem i.val := by decide +kernel

/-- and every receive semaphore. -/
theorem rSem_eq : ∀ (i : Fin 4) (inb), rSem i.val inb = dSem (4 + i.val) := by decide +kernel

/-- Said at a numeral. -/
theorem sSem_at (i : ℕ) (inb) (hi : i < 4 := by decide) : sSem i inb = dSem i := sSem_eq ⟨i, hi⟩ inb
/-- The same of a chunk's receive cell. -/
theorem rSem_at (i : ℕ) (inb) (hi : i < 4 := by decide) : rSem i inb = dSem (4 + i) := rSem_eq ⟨i, hi⟩ inb

/-- Where received chunk 0 is added, -/
theorem out_0 : (![0, 0, 0] : Fin 3 → ℕ) = outOff 0 := rfl
/-- chunk 1, -/
theorem out_1 : (![0, 256, 0] : Fin 3 → ℕ) = outOff 1 := rfl
/-- chunk 2 -/
theorem out_2 : (![1, 0, 0] : Fin 3 → ℕ) = outOff 2 := rfl
/-- and chunk 3. -/
theorem out_3 : (![1, 256, 0] : Fin 3 → ℕ) = outOff 3 := rfl

/-- Where the rows of chunk 0 start, of the first batch, -/
theorem off_0 (c : Dev nD) : k0_off1 c 0#32 = sendOff c 0 := k0_off1_eq c 0
/-- those of chunk 1, of the same batch, -/
theorem off_1 (c : Dev nD) : k0_off1 c 256#32 = sendOff c 1 := k0_off1_eq c 1
/-- those of chunk 2, of the second batch, -/
theorem off_2 (c : Dev nD) : k0_off2 c 0#32 = sendOff c 2 := k0_off2_eq c 0
/-- and those of chunk 3. -/
theorem off_3 (c : Dev nD) : k0_off2 c 256#32 = sendOff c 3 := k0_off2_eq c 1

/-- The kernel's spellings of one chunk's product agree: chunk 0's with chunk 1's, -/
theorem pay_send_0 : (fun x w => k0_pay3 (F := F) (k0_pay2 x w)) = k0_pay4 := rfl
/-- chunk 2's with chunk 1's, -/
theorem pay_send_2 : k0_pay5 (F := F) = k0_pay4 := rfl
/-- chunk 3's with chunk 1's. -/
theorem pay_send_3 : k0_pay6 (F := F) = k0_pay4 := rfl
/-- So do those of the two batches of the rows kept, -/
theorem pay_base_1 : k0_pay8 (F := F) = k0_pay7 := rfl
/-- and those of the sum with what is received: chunk 1's with chunk 0's, -/
theorem pay_sum_1 : (fun v r => k0_pay11 (F := F) (k0_pay10 v r)) = k0_pay9 := rfl
/-- chunk 2's with chunk 0's, -/
theorem pay_sum_2 : k0_pay12 (F := F) = k0_pay9 := rfl
/-- chunk 3's with chunk 0's. -/
theorem pay_sum_3 : k0_pay13 (F := F) = k0_pay9 := rfl

/-- What the body starts with. -/
def bodyPre (K : GSem nD τ sig → ℕ) (c : Dev nD) (W : Waits sig Unit) : sProp 𝕄 :=
  iprop((opened X Wt K c ∗ credits c ∗ levAts L lv)
    ∗ (pt c cc0_stg0_0 (X c) ∗ pt c cc0_stg1_0 (Wt c) ∗ ∃ f, pt c cc0_stg2_0 f)
    ∗ ((∃ f, pt c cc0_scratch0 f) ∗ (∃ f, sPts c Finset.univ f) ∗ ∃ f, rPts c Finset.univ f)
    ∗ owes (c : Thread nD τ) (O₀ c) W)

/-- What it ends with: the counters back at zero, the result computed, the rest at some contents, nothing owed. -/
def bodyPost (c : Dev nD) : sProp 𝕄 :=
  iprop((semVal (barCell c) 0 ∗ four fun i => iprop(semVal (sCell c i) 0 ∗ semVal (rCell c i) 0))
    ∗ (pt c cc0_stg0_0 (X c) ∗ pt c cc0_stg1_0 (Wt c) ∗ pt c cc0_stg2_0 (outAt X Wt c))
    ∗ ((∃ f, pt c cc0_scratch0 f) ∗ (∃ f, sPts c Finset.univ f) ∗ ∃ f, rPts c Finset.univ f)
    ∗ ∃ W, owes (c : Thread nD τ) (0 : CellTallies nD τ sig Unit) W)

set_option maxHeartbeats 4000000 in
set_option maxRecDepth 65536 in
/-- The body runs from the one to the other. -/
theorem bodyRun (K : GSem nD τ sig → ℕ) (c : Dev nD) (W : Waits sig Unit) (Kt : PUnit → sProp 𝕄) :
    iprop(bodyPre X Wt K c W ∗ (bodyPost X Wt c -∗ Kt ⟨⟩))
      ⊢ run c (cc0_body (F := F) (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) (Memref.whole cc0_scratch1) (Memref.isWhole_whole _)
          (Memref.whole cc0_scratch2) (Memref.isWhole_whole _) cc0_scratch3 cc0_scratch4) Kt := by
  simp only [cc0_body_eq_skeleton, cc0_body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton, k0_part7_skel,
    k0_part8_eq_skeleton, k0_part8_skel]
  simp only [semSignalWord, semWaitWord, Prog.lift, Prog.bind_op, Prog.bind_ret, Prog.pure_eq_ret]
  unfold run
  simp only [wp_deviceId]
  unfold bodyPre opened invs paying credits four
  iintro ⟨⟨⟨⟨⟨⟨#HIB, #HIBP⟩, ⟨#HIs0, #HIr0, #HIp0⟩, ⟨#HIs1, #HIr1, #HIp1⟩, ⟨#HIs2, #HIr2, #HIp2⟩, ⟨#HIs3, #HIr3, #HIp3⟩⟩, HatB, #HrBP,
      ⟨⟨⟨Hs0, #HRs0⟩, ⟨Hr0, #HRr0⟩⟩, ⟨⟨Hs1, #HRs1⟩, ⟨Hr1, #HRr1⟩⟩, ⟨⟨Hs2, #HRs2⟩, ⟨Hr2, #HRr2⟩⟩, ⟨⟨Hs3, #HRs3⟩, ⟨Hr3, #HRr3⟩⟩⟩,
      ⟨HtB, ⟨Hts0, Htr0⟩, ⟨Hts1, Htr1⟩, ⟨Hts2, Htr2⟩, ⟨Hts3, Htr3⟩⟩⟩, ⟨HcB, Hc0, Hc1, Hc2, Hc3⟩, #Hlev⟩,
      ⟨Hx, Hw, ⟨%fo, Ho⟩⟩, ⟨⟨%fk, Hk⟩, ⟨%fs, Hs⟩, ⟨%fr, Hr⟩⟩, HO⟩, Hcont⟩
  -- the barrier
  iapply (bar_step X Wt K c _ (Fin.ext (k0_dev1_eq c)) W) $$ [HO HtB Hr HcB HatB]
  · isplitr; · isplitr <;> iassumption
    isplitl [HO]; · iexact HO
    isplitl [HtB]; · iexact HtB
    isplitl [Hr]
    · unfold four
      isplitl [Hr]; · iexists fr; iexact Hr
      isplitr; · iexact HRr0
      isplitr; · iexact HRr1
      isplitr <;> iassumption
    isplitr; · iexact HrBP
    isplitl [HcB]; · iexact HcB
    isplitr <;> iassumption
  unfold four
  iintro ⟨HO, HatB, ⟨%fp, Hp⟩, #HRp0, #HRp1, #HRp2, #HRp3⟩
  -- the weights
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hk; iintro Hk
  iapply (wp_store 𝒱₀ (c : Thread nD τ) none Set.univ (m := kM) (r := Rect.unit (s := S1024x2048) ![0, 0] S1024x2048.size inb_S1024x2048_S1024x2048_0_0)
    (Mk := Finset.univ) (Finset.subset_univ _)) $$ Hk; iintro Hk
  rw [load_w, store_k]
  -- the four chunks sent
  ihave HSS := (Entails.of_eq (sPts_four c fs)) $$ Hs
  ihave HPP := (Entails.of_eq (rPts_four (pr c) fp)) $$ Hp
  unfold four
  icases HSS with ⟨HS0, HS1, HS2, HS3⟩
  icases HPP with ⟨HP0, HP1, HP2, HP3⟩
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hk; iintro Hk
  iapply (put_step X Wt K c 0 3 rfl _ (Fin.ext (k0_dev2_eq c)) (sSem_at 0 inb_S4_S1_0) (rSem_at 0 inb_S4_S1_0) _
    (part_of_loads X Wt c 0 _ (off_0 c) (fun x w => k0_pay3 (k0_pay2 x w)) pay_send_0 _ _) fs fp _) $$ [HS0 HP0 HO Hts0 Htr0]
  · isplitr; · iexact HIs0
    isplitr; · iexact HIp0
    isplitl [HS0]; · iexact HS0
    isplitl [HP0]; · iexact HP0
    isplitl [HO]; · iexact HO
    isplitl [Hts0]; · isplitl [Hts0] <;> iassumption
    isplitl [Htr0] <;> iassumption
  iintro ⟨Hcs0, HO⟩
  iapply (chunk_step X Wt K c 1 2 rfl _ (Fin.ext (k0_dev3_eq c)) (sSem_at 1 inb_S4_S1_1) (rSem_at 1 inb_S4_S1_1) _ (off_1 c) k0_pay4 rfl fs fp _) $$ [Hx Hk HS1 HP1 HO Hts1 Htr1]
  · isplitr; · iexact HIs1
    isplitr; · iexact HIp1
    isplitl [Hx]; · iexact Hx
    isplitl [Hk]; · iexact Hk
    isplitl [HS1]; · iexact HS1
    isplitl [HP1]; · iexact HP1
    isplitl [HO]; · iexact HO
    isplitl [Hts1]; · isplitl [Hts1] <;> iassumption
    isplitl [Htr1] <;> iassumption
  iintro ⟨⟨Hx, Hk⟩, Hcs1, HO⟩
  iapply (chunk_step X Wt K c 2 1 rfl _ (Fin.ext (k0_dev4_eq c)) (sSem_at 2 inb_S4_S1_2) (rSem_at 2 inb_S4_S1_2) _ (off_2 c) k0_pay5 pay_send_2 fs fp _) $$ [Hx Hk HS2 HP2 HO Hts2 Htr2]
  · isplitr; · iexact HIs2
    isplitr; · iexact HIp2
    isplitl [Hx]; · iexact Hx
    isplitl [Hk]; · iexact Hk
    isplitl [HS2]; · iexact HS2
    isplitl [HP2]; · iexact HP2
    isplitl [HO]; · iexact HO
    isplitl [Hts2]; · isplitl [Hts2] <;> iassumption
    isplitl [Htr2] <;> iassumption
  iintro ⟨⟨Hx, Hk⟩, Hcs2, HO⟩
  iapply (chunk_step X Wt K c 3 0 rfl _ (Fin.ext (k0_dev5_eq c)) (sSem_at 3 inb_S4_S1_3) (rSem_at 3 inb_S4_S1_3) _ (off_3 c) k0_pay6 pay_send_3 fs fp _) $$ [Hx Hk HS3 HP3 HO Hts3 Htr3]
  · isplitr; · iexact HIs3
    isplitr; · iexact HIp3
    isplitl [Hx]; · iexact Hx
    isplitl [Hk]; · iexact Hk
    isplitl [HS3]; · iexact HS3
    isplitl [HP3]; · iexact HP3
    isplitl [HO]; · iexact HO
    isplitl [Hts3]; · isplitl [Hts3] <;> iassumption
    isplitl [Htr3] <;> iassumption
  iintro ⟨⟨Hx, Hk⟩, Hcs3, HO⟩
  -- the rows kept
  iapply (base_step X Wt c 0 _ (k0_off3_eq c) k0_pay7 rfl fo) $$ [Hx Hk Ho]
  · isplitl [Hx]; · iexact Hx
    isplitl [Hk] <;> iassumption
  iintro ⟨Hx, Hk, Ho⟩
  iapply (base_step X Wt c 1 _ (k0_off4_eq c) k0_pay8 pay_base_1 _) $$ [Hx Hk Ho]
  · isplitl [Hx]; · iexact Hx
    isplitl [Hk] <;> iassumption
  iintro ⟨Hx, Hk, Ho⟩
  rw [base_stored X Wt c _ _ fo, show debts c 0 = (0 : CellTallies nD τ sig Unit) from rfl]
  -- the four chunks received
  iapply (recv_step X Wt K c 0 (by decide) (rSem_at 0 inb_S4_S1_0) ![0, 0, 0] out_0 k0_pay9 rfl _) $$ [Hc0 HO Hr0 Ho]
  · isplitr; · iexact HIr0
    isplitl [Hc0]; · iexact Hc0
    isplitl [HO]; · iexact HO
    isplitl [Hr0] <;> iassumption
  iintro ⟨HO, Hr0, Ho, HR0⟩
  iapply (recv_step X Wt K c 1 (by decide) (rSem_at 1 inb_S4_S1_1) ![0, 256, 0] out_1 (fun v r => k0_pay11 (k0_pay10 v r)) pay_sum_1 _) $$ [Hc1 HO Hr1 Ho]
  · isplitr; · iexact HIr1
    isplitl [Hc1]; · iexact Hc1
    isplitl [HO]; · iexact HO
    isplitl [Hr1] <;> iassumption
  iintro ⟨HO, Hr1, Ho, HR1⟩
  iapply (recv_step X Wt K c 2 (by decide) (rSem_at 2 inb_S4_S1_2) ![1, 0, 0] out_2 k0_pay12 pay_sum_2 _) $$ [Hc2 HO Hr2 Ho]
  · isplitr; · iexact HIr2
    isplitl [Hc2]; · iexact Hc2
    isplitl [HO]; · iexact HO
    isplitl [Hr2] <;> iassumption
  iintro ⟨HO, Hr2, Ho, HR2⟩
  iapply (recv_step X Wt K c 3 (by decide) (rSem_at 3 inb_S4_S1_3) ![1, 256, 0] out_3 k0_pay13 pay_sum_3 _) $$ [Hc3 HO Hr3 Ho]
  · isplitr; · iexact HIr3
    isplitl [Hc3]; · iexact Hc3
    isplitl [HO]; · iexact HO
    isplitl [Hr3] <;> iassumption
  iintro ⟨HO, Hr3, Ho, HR3⟩
  -- the four sends drained
  iapply (drain_step X Wt K c 0 (by decide) (sSem_at 0 inb_S4_S1_0) _) $$ [Hcs0 HO Hs0]
  · isplitr; · iexact HIs0
    isplitl [Hcs0]; · iexact Hcs0
    isplitl [HO] <;> iassumption
  iintro ⟨HO, Hs0, HS0⟩
  iapply (drain_step X Wt K c 1 (by decide) (sSem_at 1 inb_S4_S1_1) _) $$ [Hcs1 HO Hs1]
  · isplitr; · iexact HIs1
    isplitl [Hcs1]; · iexact Hcs1
    isplitl [HO] <;> iassumption
  iintro ⟨HO, Hs1, HS1⟩
  iapply (drain_step X Wt K c 2 (by decide) (sSem_at 2 inb_S4_S1_2) _) $$ [Hcs2 HO Hs2]
  · isplitr; · iexact HIs2
    isplitl [Hcs2]; · iexact Hcs2
    isplitl [HO] <;> iassumption
  iintro ⟨HO, Hs2, HS2⟩
  iapply (drain_step X Wt K c 3 (by decide) (sSem_at 3 inb_S4_S1_3) _) $$ [Hcs3 HO Hs3]
  · isplitr; · iexact HIs3
    isplitl [Hcs3]; · iexact Hcs3
    isplitl [HO] <;> iassumption
  iintro ⟨HO, Hs3, HS3⟩
  -- the cells closed
  unfold run; rw [wp_ret]
  imod (close X Wt (K (barCell c)) (barCell c)) $$ [HatB] with HatB
  · isplitr <;> iassumption
  imod (close X Wt (K (sCell c 0)) (sCell c 0)) $$ [Hs0] with Hs0
  · isplitr <;> iassumption
  imod (close X Wt (K (rCell c 0)) (rCell c 0)) $$ [Hr0] with Hr0
  · isplitr <;> iassumption
  imod (close X Wt (K (sCell c 1)) (sCell c 1)) $$ [Hs1] with Hs1
  · isplitr <;> iassumption
  imod (close X Wt (K (rCell c 1)) (rCell c 1)) $$ [Hr1] with Hr1
  · isplitr <;> iassumption
  imod (close X Wt (K (sCell c 2)) (sCell c 2)) $$ [Hs2] with Hs2
  · isplitr <;> iassumption
  imod (close X Wt (K (rCell c 2)) (rCell c 2)) $$ [Hr2] with Hr2
  · isplitr <;> iassumption
  imod (close X Wt (K (sCell c 3)) (sCell c 3)) $$ [Hs3] with Hs3
  · isplitr <;> iassumption
  imod (close X Wt (K (rCell c 3)) (rCell c 3)) $$ [Hr3] with Hr3
  · isplitr <;> iassumption
  imodintro
  iapply Hcont
  unfold bodyPost four
  isplitl [HatB Hs0 Hr0 Hs1 Hr1 Hs2 Hr2 Hs3 Hr3]
  · isplitl [HatB]; · iexact HatB
    isplitl [Hs0 Hr0]; · isplitl [Hs0] <;> iassumption
    isplitl [Hs1 Hr1]; · isplitl [Hs1] <;> iassumption
    isplitl [Hs2 Hr2]; · isplitl [Hs2] <;> iassumption
    isplitl [Hs3] <;> iassumption
  isplitl [Hx Hw Ho]
  · isplitl [Hx]; · iexact Hx
    isplitl [Hw] <;> iassumption
  isplitl [Hk HS0 HS1 HS2 HS3 HR0 HR1 HR2 HR3]
  · isplitl [Hk]; · iexists _; iexact Hk
    isplitl [HS0 HS1 HS2 HS3]
    · iexists (sentBuf X Wt c); rw [sPts_four]; unfold four
      isplitl [HS0]; · iexact HS0
      isplitl [HS1]; · iexact HS1
      isplitl [HS2] <;> iassumption
    · iexists (sentBuf X Wt (pr c)); rw [rPts_four]; unfold four
      isplitl [HR0]; · iexact HR0
      isplitl [HR1]; · iexact HR1
      isplitl [HR2] <;> iassumption
  iexists _; iexact HO

end Cert.KernelIdeal.Talk

end
-- ==== Proof.KernelIdealRegion.lean ====
/-
  The kernel's call on one device: what it starts from and ends with, between the host's reshape and the program's end.
-/
module

public import proofs.«01_k».proof.Proof.KernelIdealBody
public import proofs.«01_k».proof.Proof.Gen.KernelIdeal.Frame

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Contents -/

/-- Device `c`'s buffers at launch, -/
abbrev V₀ (c : Dev nD) : Valuation τ sig (Elt F) := fun b => m (c, b)
/-- after the reshape, -/
abbrev V₁ (c : Dev nD) : Valuation τ sig (Elt F) := StableHlo.after hostOps0 (V₀ m c)
/-- the left factor the call finds on device `c`, -/
abbrev Xin (c : Dev nD) : Vec F S2x1024x1024 .bf16 := V₁ m c main_v1
/-- and the right one. -/
abbrev Win (c : Dev nD) : Vec F S1024x2048 .bf16 := V₁ m c main_arg1
/-- What the call leaves in the result. -/
abbrev res (c : Dev nD) : Vec F S2x512x2048 .f32 := outAt (Xin m) (Win m) c
/-- Device `c`'s buffers at the end. -/
abbrev V₂ (c : Dev nD) : Valuation τ sig (Elt F) := Function.update (V₁ m c) (Proc.devRef .tc main_v2) (res m c)

/-- The result is what the call leaves; -/
theorem V₂_v2 (c : Dev nD) : V₂ m c main_v2 = res m c := Function.update_self ..
/-- the first argument, -/
theorem V₂_arg0 (c : Dev nD) : V₂ m c main_arg0 = V₁ m c main_arg0 := Function.update_of_ne (by decide) ..
/-- the second -/
theorem V₂_arg1 (c : Dev nD) : V₂ m c main_arg1 = V₁ m c main_arg1 := Function.update_of_ne (by decide) ..
/-- and the flattened first are as before the call. -/
theorem V₂_v1 (c : Dev nD) : V₂ m c main_v1 = V₁ m c main_v1 := Function.update_of_ne (by decide) ..

/-- The buffers that live through the whole program, -/
abbrev bufs : Finset (DevRef τ sig) := (StableHlo.tcRefs τ sig).filter fun b => ¬ b.isScoped
/-- and those of them the call does not touch. -/
abbrev away : Finset (DevRef τ sig) := {Proc.devRef .tc main_arg0}

/-- The four of them, one by one. -/
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

/-- They are the call's arrays and what it does not touch. -/
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) away W) := by
  rw [StableHlo.held_sub_split (T := Pipeline.arrRefs (τ := τ) spec0) (S := bufs) (c : Thread nD τ) (by decide) W,
    show bufs \ Pipeline.arrRefs (τ := τ) spec0 = away from by decide]

/-! ## The call's invariant -/

/-- The kernel's own copy semaphores: the send and the receive one of each chunk. -/
def osem (k : Fin 4 × Fin 2) : SemLoc sig := .dma (dSem (4 * k.2.val + k.1.val))

/-- A conjunction over the four chunks. -/
theorem bigSep_four (Φ : ℕ → sProp 𝕄) : bigSep Finset.univ (fun i : Fin 4 => Φ i.val) = four Φ :=
  bigSep_univ_eq_bigSepL [(0 : Fin 4), 1, 2, 3] (by decide) (by decide) fun i => Φ i.val

/-- A conjunction over the eight semaphores is one over the chunks of two. -/
theorem bigSep_eight (Φ : SemLoc sig → sProp 𝕄) :
    bigSep Finset.univ (fun k : Fin 4 × Fin 2 => Φ (osem k)) = four fun i => iprop(Φ (.dma (dSem i)) ∗ Φ (.dma (dSem (4 + i)))) := by
  rw [bigSep_univ_prod, ← bigSep_four]
  refine bigSep_congr fun i _ => (BI.bigSep_fin_two _).trans ?_
  show iprop(Φ (.dma (dSem (4 * 0 + i.val))) ∗ Φ (.dma (dSem (4 * 1 + i.val)))) = _
  rw [Nat.mul_zero, Nat.zero_add, Nat.mul_one]

/-- Two conjunctions over the chunks are one of both. -/
theorem four_sep (Φ Ψ : ℕ → sProp 𝕄) : iprop(four Φ ∗ four Ψ) = four fun i => iprop(Φ i ∗ Ψ i) := by
  rw [← bigSep_four, ← bigSep_four, ← bigSep_four, ← bigSep_sep']

/-- An entailment chunk by chunk. -/
theorem four_mono {Φ Ψ : ℕ → sProp 𝕄} (h : ∀ i, i < 4 → Φ i ⊢ Ψ i) : four Φ ⊢ four Ψ := by
  rw [← bigSep_four, ← bigSep_four]
  exact bigSep_mono fun i _ => h i.val i.isLt

/-- The eight counters at zero. -/
def zeros (c : Dev nD) : sProp 𝕄 := four fun i => iprop(semVal (sCell c i) 0 ∗ semVal (rCell c i) 0)

/-- The call's own counters, all at zero, are the eight cells at zero. -/
theorem ownSems_eq (c : Dev nD) : (Pipeline.ownSems0 osem c : sProp 𝕄) = zeros c :=
  bigSep_eight fun sm => semVal ((c : Thread nD τ), sm) 0

/-- The scratch buffers at contents not chosen. -/
def scratch (c : Dev nD) : sProp 𝕄 := iprop((∃ f, pt c cc0_scratch0 f) ∗ (∃ f, sPts c Finset.univ f) ∗ ∃ f, rPts c Finset.univ f)

/-- What the call takes of the protocol, -/
def Tk (c : Dev nD) : sProp 𝕄 := iprop((∃ K, ghost (Xin m) (Win m) K c) ∗ credits c)
/-- what the body finds of it, -/
def Xk (c : Dev nD) : sProp 𝕄 := iprop((∃ K, opened (Xin m) (Win m) K c) ∗ credits c ∗ levAts L lv)
/-- and what is left of it. -/
def Yk (c : Dev nD) : sProp 𝕄 := semVal (barCell c) 0

/-- Before the body, -/
def Φ₀ (c : Dev nD) : sProp 𝕄 := iprop(Xk m c ∗ scratch c ∗ ∃ r, prngReg c r)
/-- and after it. -/
def Φ₁ (c : Dev nD) : sProp 𝕄 := iprop((Yk c ∗ zeros c) ∗ scratch c ∗ ∃ r, prngReg c r)

/-- The call's proof data: the arrays as found; the staging buffers after the body; the invariant; what is owed. -/
def dat (c : Dev nD) : Dat τ (Elt F) Unit ℕ UU ℕ cfg0 c where
  A w := V₁ m c (Pipeline.arrRef spec0 w)
  after w _ := match w with
    | ⟨0, _⟩ => Xin m c
    | ⟨1, _⟩ => Win m c
    | ⟨2, _⟩ => res m c
  Φ t := if t.val = 0 then Φ₀ m c else Φ₁ c
  q _ := fullShare
  owed t := if t.val = 0 then O₀ c else 0

/-- The one call is well formed, -/
abbrev adm : (p : Fin 1) → (pcfgs (F := F) p).Adm := fun p => (cfgs p).toPCfg_adm
/-- and this is its account, device by device. -/
def pdats : (p : Fin 1) → (c : Dev nD) → Dat τ (Elt F) Unit ℕ UU ℕ (Pipeline.pin (pcfgs (F := F)) adm p) c
  | 0 => dat m

/-- Before the body the account holds what the body starts from, -/
theorem Φ_first (c : Dev nD) : (dat m c).Φ t0_0.castSucc = Φ₀ m c := by
  show (if (t0_0.castSucc : Fin (cfg0.N + 1)).val = 0 then Φ₀ m c else Φ₁ c) = _; exact if_pos rfl
/-- after it what it ends with; -/
theorem Φ_last (c : Dev nD) : (dat m c).Φ t0_0.succ = Φ₁ c := by
  show (if (t0_0.succ : Fin (cfg0.N + 1)).val = 0 then Φ₀ m c else Φ₁ c) = _; exact if_neg (by rw [Fin.val_succ]; omega)
/-- the body starts owing its partner's barrier unit and four chunks -/
theorem owed_first (c : Dev nD) : (dat m c).owed t0_0.castSucc = O₀ c := by
  show (if (t0_0.castSucc : Fin (cfg0.N + 1)).val = 0 then O₀ c else 0) = _; exact if_pos rfl
/-- and ends owing none. -/
theorem owed_last (c : Dev nD) : (dat m c).owed t0_0.succ = 0 := by
  show (if (t0_0.succ : Fin (cfg0.N + 1)).val = 0 then O₀ c else 0) = _; exact if_neg (by rw [Fin.val_succ]; omega)

/-- A whole staging buffer at contents `f`. -/
theorem owns_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ pt c b g) := by
  unfold owns; simp only [Memref.view_whole, View.read_whole, View.set_whole]

/-- The first window's staging buffer holds the left factor, -/
theorem before_0 (c : Dev nD) (d) : (dat m c).before (0 : Fin 3) t0_0 d = Xin m c := by
  unfold Dat.before; rw [if_pos (fetch0_0 _)]
  exact Memref.read_access_unit_zero (Elt F) main_v1 (off := fun a => (win0_0.index t0_0) a * main_v1.ty.shape.size a)
    (funext fun a => by fin_cases a <;> rfl) (fun a => by fin_cases a <;> decide) (Xin m c)
/-- the second's the right one. -/
theorem before_1 (c : Dev nD) (d) : (dat m c).before (1 : Fin 3) t0_0 d = Win m c := by
  unfold Dat.before; rw [if_pos (fetch0_1 _)]
  exact Memref.read_access_unit_zero (Elt F) main_arg1 (off := fun a => (win0_1.index t0_0) a * main_arg1.ty.shape.size a)
    (funext fun a => by fin_cases a <;> rfl) (fun a => by fin_cases a <;> decide) (Win m c)

/-- The result's write-back leaves what the body computed. -/
theorem final_2 (c : Dev nD) : (dat m c).arrAt (2 : Fin 3) cfg0.N = res m c := by
  rw [show cfg0.N = (t0_0 : Fin cfg0.N).val + 1 from N_0, (dat m c).arrAt_succ (2 : Fin 3) t0_0, if_pos (flush0_2 t0_0)]
  exact Memref.write_access_unit_zero_univ (Elt F) main_v2 (off := fun a => (win0_2.index t0_0) a * main_v2.ty.shape.size a)
    (funext fun a => by fin_cases a <;> rfl) (fun a => by fin_cases a <;> decide) _ (res m c)

/-- A staging buffer at contents equal to `f`. -/
abbrev stg (c : Dev nD) (b : Ref sig .tc) (f : b.ty.Contents (Elt F)) : sProp 𝕄 :=
  iprop(∃ g : Buf (Elt F) ((c : Thread nD τ).loc b), ⌜g = f⌝ ∗ pt c b g)

/-- The body, from what the pipeline calls it with to what the pipeline takes back. -/
theorem body_pipe (c : Dev nD) (Kt : PUnit → sProp 𝕄) :
    iprop((Φ₀ m c ∗ (dat m c).owesAt () t0_0.castSucc ∗ (∃ d, stg c cc0_stg0_0 ((dat m c).before (0 : Fin 3) t0_0 d))
        ∗ (∃ d, stg c cc0_stg1_0 ((dat m c).before (1 : Fin 3) t0_0 d)) ∗ (∃ d, stg c cc0_stg2_0 ((dat m c).before (2 : Fin 3) t0_0 d)))
      ∗ ((Φ₁ c ∗ (dat m c).owesAt () t0_0.succ ∗ stg c cc0_stg0_0 (Xin m c) ∗ stg c cc0_stg1_0 (Win m c) ∗ stg c cc0_stg2_0 (res m c)) -∗ Kt ⟨⟩))
      ⊢ run c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _) cc0_scratch3 cc0_scratch4) Kt := by
  unfold Φ₀ Φ₁ Xk Yk zeros Dat.owesAt Pipeline.owesWithin
  rw [owed_first, owed_last]
  simp only [before_0, before_1]
  iintro ⟨⟨⟨⟨⟨%K, Hg⟩, Hc, Hl⟩, Hscr, Hp⟩, ⟨%W, -, HO⟩, ⟨%d0, %g0, %h0, H0⟩, ⟨%d1, %g1, %h1, H1⟩, ⟨%d2, %g2, -, H2⟩⟩, Hk⟩
  subst h0 h1
  iapply (bodyRun (Xin m) (Win m) K c W Kt)
  isplitr [Hk Hp]
  · unfold bodyPre scratch
    isplitl [Hg Hc Hl]
    · isplitl [Hg]; · iexact Hg
      isplitl [Hc]; · iexact Hc
      iexact Hl
    isplitl [H0 H1 H2]
    · isplitl [H0]; · iexact H0
      isplitl [H1]; · iexact H1
      iexists g2; iexact H2
    isplitl [Hscr]; · iexact Hscr
    iexact HO
  unfold bodyPost
  iintro ⟨⟨Hb, Hz⟩, ⟨H0, H1, H2⟩, Hscr, ⟨%W', HO⟩⟩
  iapply Hk
  isplitl [Hb Hz Hscr Hp]
  · isplitl [Hb Hz]
    · isplitl [Hb]; · iexact Hb
      iexact Hz
    isplitl [Hscr]; · unfold scratch; iexact Hscr
    iexact Hp
  isplitl [HO]
  · iexists W'; isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

/-- The pipeline's obligation of the body. -/
theorem body_ok (c : Dev nD) : BodyObligation (dat (F := F) m c) defs₀ 𝒱₀ () Set.univ := fun t => by
  obtain rfl := fin_N0 t
  rw [bigSep_W0, bigSep_W0, Φ_first, Φ_last]
  simp only [owns_eq]
  iintro H
  iapply (body_pipe m c _)
  isplitl [H]; · iexact H
  iintro H; iexact H

end Cert.KernelIdeal.Talk

end
-- ==== Proof.KernelIdealRun.lean ====
/-
  The whole program on the eight devices: the host's reshape, the call, the launch of the protocol, the run.
-/
module

public import proofs.«01_k».proof.Proof.KernelIdealRegion
public import Idealize.ShloMosaic.Harness.Basic

@[expose] public section

noncomputable section

namespace Cert.KernelIdeal.Talk

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The call as a segment of the program -/

/-- One chunk's two cells opened. -/
theorem open_two (K : GSem nD τ sig → ℕ) (c : Dev nD) (i : ℕ) :
    iprop((cellInv ER (talkRd (Xin m) (Win m)) (K (sCell c i)) (sCell c i) ∗ cellInv ER (talkRd (Xin m) (Win m)) (K (rCell c i)) (rCell c i))
        ∗ (openTok ER (sCell c i) ∗ openTok ER (rCell c i)) ∗ (semVal (sCell c i) 0 ∗ semVal (rCell c i) 0))
      ⊢ (|={Set.univ}=> ((atPos ER (sCell c i) 0 ∅ 0 ∗ reached ER (sCell c i) 0) ∗ (atPos ER (rCell c i) 0 ∅ 0 ∗ reached ER (rCell c i) 0)) : sProp 𝕄) := by
  iintro ⟨⟨#HIs, #HIr⟩, ⟨Hos, Hor⟩, Hvs, Hvr⟩
  imod (Rounds.cell_open ER (talkRd (Xin m) (Win m)) (g := sCell c i) (Set.mem_univ (K (sCell c i)))) $$ [Hos Hvs] with ⟨HaS, #HrS⟩
  · isplitr; · iexact HIs
    isplitl [Hos] <;> iassumption
  imod (Rounds.cell_open ER (talkRd (Xin m) (Win m)) (g := rCell c i) (Set.mem_univ (K (rCell c i)))) $$ [Hor Hvr] with ⟨HaR, #HrR⟩
  · isplitr; · iexact HIr
    isplitl [Hor] <;> iassumption
  imodintro
  isplitl [HaS]
  · isplitl [HaS]; · iexact HaS
    iexact HrS
  isplitl [HaR]; · iexact HaR
  iexact HrR

/-- The eight cells opened on entering the call. -/
theorem open_all (c : Dev nD) : iprop(Tk m c ∗ Pipeline.ownSems0 osem c ∗ levAts L lv) ⊢ (|={Set.univ}=> Xk m c : sProp 𝕄) := by
  rw [ownSems_eq]
  unfold Tk Xk zeros ghost four
  iintro ⟨⟨⟨%K, #HI, HatB, ⟨T0, T1, T2, T3⟩, #HrP, Hpay⟩, Hc⟩, ⟨Z0, Z1, Z2, Z3⟩, #Hlev⟩
  ihave HI' := (show invs (Xin m) (Win m) K c ⊢ _ from by unfold invs four; exact BI.Entails.refl _) $$ HI
  icases HI' with ⟨-, ⟨#A0, #B0, -⟩, ⟨#A1, #B1, -⟩, ⟨#A2, #B2, -⟩, #A3, #B3, -⟩
  imod (open_two m K c 0) $$ [T0 Z0] with P0
  · isplitr; · (isplitr; · iexact A0); iexact B0
    isplitl [T0] <;> iassumption
  imod (open_two m K c 1) $$ [T1 Z1] with P1
  · isplitr; · (isplitr; · iexact A1); iexact B1
    isplitl [T1] <;> iassumption
  imod (open_two m K c 2) $$ [T2 Z2] with P2
  · isplitr; · (isplitr; · iexact A2); iexact B2
    isplitl [T2] <;> iassumption
  imod (open_two m K c 3) $$ [T3 Z3] with P3
  · isplitr; · (isplitr; · iexact A3); iexact B3
    isplitl [T3] <;> iassumption
  imodintro
  isplitr [Hc]
  · iexists K; unfold opened four
    isplitr; · iexact HI
    isplitl [HatB]; · iexact HatB
    isplitr; · iexact HrP
    isplitr [Hpay]
    · isplitl [P0]; · iexact P0
      isplitl [P1]; · iexact P1
      isplitl [P2] <;> iassumption
    iexact Hpay
  isplitl [Hc]; · iexact Hc
  iexact Hlev

/-- What a launch needs of the call's layout. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Entering the call the invariant holds, -/
theorem enter (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = Φ₀ m c from Φ_first m c,
    show (Pipeline.scopedRest (Pipeline.pin (pcfgs (F := F)) adm 0).spec c : sProp 𝕄) = scratch c from scopedRest0_eq c]
  unfold Φ₀
  iintro ⟨Hs, Hp, -, HX⟩
  isplitl [HX]; · iexact HX
  isplitl [Hs] <;> iassumption

/-- and leaving it gives everything back. -/
theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = Φ₁ c from Φ_last m c, ownSems_eq,
    show (Pipeline.scopedRest (Pipeline.pin (pcfgs (F := F)) adm 0).spec c : sProp 𝕄) = scratch c from scopedRest0_eq c,
    show (StableHlo.held (c.tc : Thread nD τ) ∅ (V₂ m c) : sProp 𝕄) = BI.emp from by unfold StableHlo.held; exact BI.bigSep_empty]
  unfold Φ₁
  iintro ⟨⟨HY, Hz⟩, Hs, Hp⟩
  isplitl [Hs]; · iexact Hs
  isplitl [Hp]; · iexact Hp
  isplitr; · iempintro
  isplitl [Hz] <;> iassumption

/-- What is owed at any point is owed above the staging cells. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · exact O₀_above c g i h
  · exact absurd h (Nat.lt_irrefl 0)

/-- The staging cells are at level 0. -/
theorem staging_low : ∀ (w : Fin 3) (s : Fin (spec0 w).nbuf), lvl (.dma ((spec0 w).sem s)) ≤ 0 := by decide

/-- After the call the arrays hold what `V₂` says. -/
theorem arrays_end (c : Dev nD) (w : Fin 3) : (dat m c).arrAt w cfg0.N = V₂ m c (Pipeline.arrRef spec0 w) := by
  fin_cases w
  · exact ((dat m c).arrAt_in (0 : Fin 3) rfl _).trans (V₂_v1 m c).symm
  · exact ((dat m c).arrAt_in (1 : Fin 3) rfl _).trans (V₂_arg1 m c).symm
  · exact (final_2 m c).trans (V₂_v2 m c).symm

set_option backward.isDefEq.respectTransparency.types false in
/-- The call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ away (Finset.empty_subset _) kit rfl (fun c => (body_ok m c).loose)
    (fun _ => 0) O₀ (fun c => (owed_first m c).trans (zero_add _).symm) (owed_last m) (fun _ => rfl) (fun _ w => by fin_cases w <;> rfl)
    (V₁ m) (V₂ m) (fun c b hb => by
      rw [Finset.mem_singleton.mp (Finset.mem_sdiff.mp hb).1]; exact V₂_arg0 m c)
    (Tk m) Yk (Xk m) Yk (open_all m) (enter m) (leave m)
    (fun c => by iintro H; imodintro; iexact H)
    (fun _ => 0)
    ⟨fun c w s => by rw [L_tc]; exact Finset.mem_singleton_self _, fun c w s => staging_low w s, fun c t g i h => owed_above m c t g i h⟩
    (fun _ => iprop(emp))
    (fun _ _ => rfl) (fun c w => arrays_end m c w)

/-- What a device carries along beside its buffers, up to the call. -/
def R (c : Dev nD) : sProp 𝕄 := iprop((Tk m c ∗ ∃ r, prngReg c r) ∗ ∃ W, owes (c : Thread nD τ) (O₀ c) W)

/-- What the host's reshape leaves is what the call starts from, -/
theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) away (V₁ m c) ∗ emp) ∗ Tk m c ∗ ∃ Wd, owes (c : Thread nD τ) (0 + O₀ c) Wd)
  rw [bufs_split, zero_add]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

/-- What a device ends with. -/
abbrev Tₙ (c : Dev nD) : sProp 𝕄 := iprop(StableHlo.held (c : Thread nD τ) bufs (V₂ m c) ∗ semVal (barCell c) 0)

/-- and what the call ends with is the end of the program. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) away (V₂ m c) ∗ emp) ∗ Yk c ∗ ∃ Wd, owes (c : Thread nD τ) (0 : CellTallies nD τ sig Unit) Wd) ⊢ _
  dsimp only [Tₙ]
  rw [bufs_split]
  unfold Yk
  iintro ⟨Ha, -, ⟨Hr, -⟩, Hb, HO⟩
  isplitr [HO]
  · isplitl [Ha Hr]
    · isplitl [Ha] <;> iassumption
    iexact Hb
  iexact HO

/-- The host's reshape. -/
def host : Pipeline.HostSeg (Name := ℕ) (U := UU) (pcfgs (F := F)) defs₀ 𝒱₀ L lv :=
  Pipeline.HostSeg.ofOps _ _ _ _ _ bufs hostOps0
    (fun op h => by
      rw [List.mem_singleton.mp h]
      show ({Proc.devRef .tc main_arg0, Proc.devRef .tc main_v1} : Finset (DevRef τ sig)) ⊆ bufs; decide)
    (fun op h => by rw [List.mem_singleton.mp h]; rfl) (V₀ m) (R m)

/-- The program in order. -/
def segs : List (Pipeline.Seg (pcfgs (F := F)) adm (pdats m) () defs₀ 𝒱₀ L lv) := [.host (host m), .region (reg m)]

/-- The printed program is the reshape followed by the call. -/
theorem main_eq (c : Dev nD) : main (F := F) c = Pipeline.Seg.run (segs m) :=
  main_segs adm (pdats m) () 𝒱₀ L lv (host m) (reg m) rfl c

/-! ## The launch -/

/-- The call's own counters are distinct -/
theorem osem_inj : Function.Injective osem := by decide
/-- and none of them is the barrier. -/
theorem osem_ne_bar : ∀ k, osem k ≠ .reg barS := by decide

/-- The barrier cells, -/
def barEmb : Dev nD ↪ GSem nD τ sig := ⟨fun c => barCell c, fun _ _ h => congrArg (fun g : GSem nD τ sig => g.1.1) h⟩
/-- and the kernel's own. -/
def scEmb : Dev nD × (Fin 4 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

/-- All barrier cells -/
abbrev barCells : Finset (GSem nD τ sig) := Finset.univ.map barEmb
/-- and all send and receive cells. -/
abbrev scCells : Finset (GSem nD τ sig) := Finset.univ.map scEmb

/-- Every cell's one duty. -/
def talkToks : Finset (GSem nD τ sig × ℕ × Unit) :=
  (barCells ∪ scCells).map ⟨fun g => (g, 0, ()), fun _ _ h => congrArg Prod.fst h⟩

/-- No cell is of both kinds. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A barrier cell, -/
theorem bar_mem (c : Dev nD) : barCell c ∈ (barCells ∪ scCells : Finset (GSem nD τ sig)) :=
  Finset.mem_union_left _ (Finset.mem_map_of_mem barEmb (Finset.mem_univ c))
/-- a send cell -/
theorem s_mem (c : Dev nD) (i : ℕ) (hi : i < 4) : sCell c i ∈ (barCells ∪ scCells : Finset (GSem nD τ sig)) := by
  refine Finset.mem_union_right _ (Finset.mem_map.mpr ⟨(c, (⟨i, hi⟩, 0)), Finset.mem_univ _, ?_⟩)
  show ((c : Thread nD τ), SemLoc.dma (dSem (4 * 0 + i))) = _
  rw [Nat.mul_zero, Nat.zero_add]
/-- and a receive cell are among them. -/
theorem r_mem (c : Dev nD) (i : ℕ) (hi : i < 4) : rCell c i ∈ (barCells ∪ scCells : Finset (GSem nD τ sig)) := by
  refine Finset.mem_union_right _ (Finset.mem_map.mpr ⟨(c, (⟨i, hi⟩, 1)), Finset.mem_univ _, ?_⟩)
  show ((c : Thread nD τ), SemLoc.dma (dSem (4 * 1 + i))) = _
  rw [Nat.mul_one]

/-- A family over the barrier cells is one over the devices, -/
theorem over_bar (Φ : GSem nD τ sig → sProp 𝕄) : bigSep barCells Φ = bigSep Finset.univ fun c : Dev nD => Φ (barCell c) := bigSep_map barEmb
/-- and one over the kernel's own cells is one over the devices of eight. -/
theorem over_sc (Φ : GSem nD τ sig → sProp 𝕄) :
    bigSep scCells Φ = bigSep Finset.univ fun c : Dev nD => four fun i => iprop(Φ (sCell c i) ∗ Φ (rCell c i)) := by
  rw [bigSep_map, bigSep_univ_prod]
  exact bigSep_congr fun c _ => bigSep_eight fun sm => Φ ((c : Thread nD τ), sm)

/-- The launch element: the pipeline's part and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's part, -/
def seed : sProp 𝕄 := BI.own (ER (launchOf barCells scCells talkToks))
/-- kept on the first device until all devices start. -/
def G (c : Dev nD) : sProp 𝕄 := if c = 0 then seed else iprop(emp)

/-- The devices' shares together are the protocol's whole seed. -/
theorem G_all : bigSep Finset.univ (G (F := F)) = seed := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and that the barriers are open. -/
def records (κ : GSem nD τ sig → ℕ) : sProp 𝕄 :=
  iprop((bigSep (barCells ∪ scCells) fun g => cellInv ER (talkRd (Xin m) (Win m)) (κ g) g) ∗ bigSep barCells fun g => reached ER g 0)

/-- The records are shared. -/
instance records_persistent (κ : GSem nD τ sig → ℕ) : BI.Persistent (records m κ) := by unfold records; infer_instance

/-- One invariant of them. -/
theorem inv_at (κ : GSem nD τ sig → ℕ) {g : GSem nD τ sig} (hg : g ∈ (barCells ∪ scCells : Finset (GSem nD τ sig))) :
    (bigSep (barCells ∪ scCells) fun g => (cellInv ER (talkRd (Xin m) (Win m)) (κ g) g : sProp 𝕄)) ⊢ cellInv ER (talkRd (Xin m) (Win m)) (κ g) g :=
  bigSep_elim hg

/-- A device's share of them. -/
theorem invs_intro (κ : GSem nD τ sig → ℕ) (c : Dev nD) : records m κ ⊢ iprop(invs (Xin m) (Win m) κ c ∗ reached ER (barCell (pr c)) 0) := by
  unfold records
  iintro ⟨#HI, #HR⟩
  isplitr
  · unfold invs four
    have three (i : ℕ) (hi : i < 4) : (bigSep (barCells ∪ scCells) fun g => (cellInv ER (talkRd (Xin m) (Win m)) (κ g) g : sProp 𝕄))
        ⊢ iprop(cellInv ER (talkRd (Xin m) (Win m)) (κ (sCell c i)) (sCell c i) ∗ cellInv ER (talkRd (Xin m) (Win m)) (κ (rCell c i)) (rCell c i)
          ∗ cellInv ER (talkRd (Xin m) (Win m)) (κ (rCell (pr c) i)) (rCell (pr c) i)) := by
      iintro #HI
      isplitr; · iapply (inv_at m κ (s_mem c i hi)); iexact HI
      isplitr; · iapply (inv_at m κ (r_mem c i hi)); iexact HI
      iapply (inv_at m κ (r_mem (pr c) i hi)); iexact HI
    isplitr
    · isplitr; · iapply (inv_at m κ (bar_mem c)); iexact HI
      iapply (inv_at m κ (bar_mem (pr c))); iexact HI
    isplitr; · iapply (three 0 (by decide)); iexact HI
    isplitr; · iapply (three 1 (by decide)); iexact HI
    isplitr; · iapply (three 2 (by decide)); iexact HI
    iapply (three 3 (by decide)); iexact HI
  iapply (show (bigSep barCells fun g => (reached ER g 0 : sProp 𝕄)) ⊢ reached ER (barCell (pr c)) 0 from
    bigSep_elim (Finset.mem_map_of_mem barEmb (Finset.mem_univ (pr c))))
  iexact HR

/-- What is a device's own: its place on its barrier, the right to open its eight cells, the tokens it pays with. -/
def linear (c : Dev nD) : sProp 𝕄 :=
  iprop(atPos ER (barCell c) 0 ∅ 0 ∗ (four fun i => iprop(openTok ER (sCell c i) ∗ openTok ER (rCell c i))) ∗ paying c)

/-- The records and a device's tokens are what its part of the protocol needs. -/
theorem ghost_intro (κ : GSem nD τ sig → ℕ) (c : Dev nD) : iprop(records m κ ∗ linear c) ⊢ iprop(∃ K, ghost (Xin m) (Win m) K c) := by
  unfold linear ghost
  iintro ⟨HR, HaB, Ho, Hp⟩
  ihave HR' := (invs_intro m κ c) $$ HR
  icases HR' with ⟨HI, HrP⟩
  iexists κ
  isplitl [HI]; · iexact HI
  isplitl [HaB]; · iexact HaB
  isplitl [Ho]; · iexact Ho
  isplitl [HrP] <;> iassumption

/-- All tokens, the barrier and the receive ones each handed to the partner. -/
theorem toks_around : bigSep talkToks (fun x => (dutyTok ER x.1 x.2.1 x.2.2 : sProp 𝕄)) = bigSep Finset.univ fun c : Dev nD => paying c := by
  unfold talkToks
  rw [bigSep_map, bigSep_union disjoint_cells]
  show iprop(bigSep barCells (fun g => dutyTok ER g 0 ()) ∗ bigSep scCells (fun g => dutyTok ER g 0 ())) = _
  rw [over_bar, over_sc]
  unfold paying
  rw [bigSep_sep', bigSep_univ_equiv swap (fun c : Dev nD => (dutyTok ER (barCell c) 0 () : sProp 𝕄))]
  simp only [← four_sep]
  rw [bigSep_sep', bigSep_sep', bigSep_univ_equiv swap (fun c : Dev nD => four fun i => (dutyTok ER (rCell c i) 0 () : sProp 𝕄))]
  rfl

/-! ## What the devices owe each other at launch -/

/-- A receive cell is no barrier. -/
theorem recv_ne_bar (c d : Dev nD) (i : ℕ) : rCell c i ≠ barCell d := fun h => by
  have e : (SemLoc.dma (dSem (4 + i)) : SemLoc sig) = SemLoc.reg barS := congrArg Prod.snd h
  simp at e

/-- The receive cells of a partner are told apart by their device and their chunk. -/
theorem recv_eq (c d : Dev nD) (i j : ℕ) (hi : i < 4) (hj : j < 4) (h : rCell c i = rCell (pr d) j) : d = pr c ∧ i = j := by
  refine ⟨(pr_eq_iff d c).mp (Fin.ext (congrArg (fun g : GSem nD τ sig => g.1.1.val) h).symm), ?_⟩
  have := dSem_inj _ _ (by omega) (by omega) (SemLoc.dma.inj (congrArg Prod.snd h))
  omega

/-- Chunk `i` is owed by the partner, -/
theorem debts_recv (d c : Dev nD) (i : ℕ) (hi : i < 4) : ∀ n, n ≤ 4 → debts d n (rCell c i) () = if d = pr c ∧ 4 ≤ i + n then N else 0
  | 0, _ => by rw [if_neg (by omega)]; rfl
  | n + 1, hn => by
    show debts d n (rCell c i) () + tallyAt (rCell (pr d) (3 - n)) () N (rCell c i) () = _
    rw [debts_recv d c i hi n (by omega), tallyAt_apply]
    by_cases h : d = pr c ∧ i = 3 - n
    · obtain ⟨rfl, hin⟩ := h
      have e : rCell c i = rCell (pr (pr c)) (3 - n) ∧ (() : Unit) = () := ⟨by rw [pr_pr, hin], rfl⟩
      rw [if_pos e, if_neg (by omega), if_pos ⟨rfl, by omega⟩, Nat.zero_add]
    · have e : ¬ (rCell c i = rCell (pr d) (3 - n) ∧ (() : Unit) = ()) := fun e => h (recv_eq c d i (3 - n) hi (by omega) e.1)
      rw [if_neg e, Nat.add_zero]
      by_cases hd : d = pr c
      · by_cases h4 : 4 ≤ i + n
        · rw [if_pos ⟨hd, h4⟩, if_pos ⟨hd, by omega⟩]
        · rw [if_neg (fun h' => h4 h'.2), if_neg (fun h' => h ⟨hd, by omega⟩)]
      · rw [if_neg (fun h' => hd h'.1), if_neg (fun h' => hd h'.1)]

/-- and no chunk to a barrier. -/
theorem debts_bar (d c : Dev nD) : ∀ n, debts d n (barCell c) () = 0
  | 0 => rfl
  | n + 1 => by
    show debts d n (barCell c) () + tallyAt (rCell (pr d) (3 - n)) () N (barCell c) () = 0
    have e : ¬ (barCell c = rCell (pr d) (3 - n) ∧ (() : Unit) = ()) := fun e => recv_ne_bar _ _ _ e.1.symm
    rw [debts_bar d c n, tallyAt_apply, if_neg e]

/-- A barrier is owed its unit by the partner, -/
theorem owed_bar (d c : Dev nD) : O₀ d (barCell c) () = if d = pr c then 1 else 0 := by
  show debts d 4 (barCell c) () + tallyAt (barCell (pr d)) () 1 (barCell c) () = _
  rw [debts_bar, tallyAt_apply, Nat.zero_add]
  by_cases h : d = pr c
  · subst h; rw [pr_pr, if_pos ⟨rfl, rfl⟩, if_pos rfl]
  · rw [if_neg (fun e => h ((pr_eq_iff d c).mp (Fin.ext (congrArg (fun g : GSem nD τ sig => g.1.1.val) e.1).symm))), if_neg h]

/-- and a receive cell its chunk's credit. -/
theorem owed_recv (d c : Dev nD) (i : ℕ) (hi : i < 4) : O₀ d (rCell c i) () = if d = pr c then N else 0 := by
  show debts d 4 (rCell c i) () + tallyAt (barCell (pr d)) () 1 (rCell c i) () = _
  have e : ¬ (rCell c i = barCell (pr d) ∧ (() : Unit) = ()) := fun e => recv_ne_bar _ _ _ e.1
  rw [debts_recv d c i hi 4 (Nat.le_refl 4), tallyAt_apply, if_neg e, Nat.add_zero]
  by_cases h : d = pr c
  · rw [if_pos ⟨h, by omega⟩, if_pos h]
  · rw [if_neg (fun e => h e.1), if_neg h]

/-- What all devices owe a cell that only the partner owes. -/
theorem launch_of (c : Dev nD) (sm : SemLoc sig) (k : ℕ) (h : ∀ d, O₀ d ((c : Thread nD τ), sm) () = if d = pr c then k else 0) :
    tallyOn ((c : Thread nD τ), sm) (launchCredit (Pipeline.owing O₀) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => k,
    if_pos (Finset.mem_univ _)]

/-- The credit of the launch is what the body waits with. -/
theorem creds (c : Dev nD) : (Pipeline.launchCred O₀ c : sProp 𝕄) ⊢ credits c := by
  unfold Pipeline.launchCred credits
  rw [bigSep_univ_at _ (SemLoc.reg barS), launch_of c _ 1 (fun d => owed_bar d c)]
  refine sep_mono_right ?_
  have inj : Function.Injective (fun i : Fin 4 => (SemLoc.dma (dSem (4 + i.val)) : SemLoc sig)) := fun i j h =>
    Fin.ext (by have := dSem_inj _ _ (by omega) (by omega) (SemLoc.dma.inj h); omega)
  have sub : Finset.univ.map ⟨_, inj⟩ ⊆ (Finset.univ : Finset (SemLoc sig)).erase (.reg barS) := fun sm h => by
    obtain ⟨i, -, rfl⟩ := Finset.mem_map.mp h
    exact Finset.mem_erase.mpr ⟨nofun, Finset.mem_univ _⟩
  refine BIBase.Entails.trans (BI.bigSep_subset sub) ?_
  rw [bigSep_map, ← bigSep_four]
  refine bigSep_mono fun i _ => ?_
  have e := launch_of c _ N (fun d => owed_recv d c i.val i.isLt)
  show (cred (tallyOn (rCell c i.val) (launchCredit (Pipeline.owing O₀) 0 (rCell c i.val))) : sProp 𝕄) ⊢ cred (tallyAt (rCell c i.val) () N)
  rw [e]

/-! ## The run -/

/-- The buffers of the whole program, held at launch, are those the segments hold. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The one counter of the whole program is the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device starts with. -/
abbrev T₀ (c : Dev nD) : sProp 𝕄 := iprop(StableHlo.held (c : Thread nD τ) bufs (V₀ m c) ∗ R m c)

/-- All of it but the protocol's part. -/
def bundle (c : Dev nD) : sProp 𝕄 :=
  iprop(StableHlo.held (c : Thread nD τ) bufs (V₀ m c) ∗ credits c ∗ owes (c : Thread nD τ) (O₀ c) ∅ ∗ ∃ r, prngReg c r)

/-- With the buffers, that is what a device starts from. -/
theorem T₀_intro (κ : GSem nD τ sig → ℕ) (c : Dev nD) : iprop(records m κ ∗ (linear c ∗ bundle m c)) ⊢ T₀ m c := by
  unfold bundle T₀ R Tk
  iintro ⟨HR, Hl, Hh, Hc, HO, Hp⟩
  isplitl [Hh]; · iexact Hh
  isplitr [HO]
  · isplitr [Hp]
    · isplitl [HR Hl]
      · iapply (ghost_intro m κ c); isplitl [HR] <;> iassumption
      iexact Hc
    iexact Hp
  · iexists ∅; iexact HO

/-- A device's launch holdings, sorted. -/
theorem sorted (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- All devices start: the protocol's cells are set up and everything is dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => sorted m ρ c) $$ H
  ihave H2 := Smoke.bigSep_unpair $$ H'; icases H2 with ⟨HB, H3⟩
  ihave H4 := Smoke.bigSep_unpair $$ H3; icases H4 with ⟨Hv, HG⟩
  ihave Hu := (Entails.of_eq (G_all (F := F))) $$ HG
  unfold seed
  imod (Rounds.fund_launch ER (talkRd (Xin m) (Win m)) disjoint_cells (fun g _ h => h) talkToks) $$ [Hv Hu] with ⟨%κ, -, #Hinv, #Hr, Hat, Hopen, Htok⟩
  · isplitl [Hv]
    · iapply (Entails.of_eq (over_bar (F := F) fun g => semVal g 0).symm) $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply Smoke.bigSep_pair
  isplitr [HB]
  · unfold linear
    iapply Smoke.bigSep_pair; isplitl [Hat]; · iapply (Entails.of_eq (over_bar (F := F) fun g => atPos ER g 0 ∅ 0)) $$ Hat
    iapply Smoke.bigSep_pair; isplitl [Hopen]; · iapply (Entails.of_eq (over_sc (F := F) fun g => openTok ER g)) $$ Hopen
    iapply (Entails.of_eq (toks_around (F := F))) $$ Htok
  · iexact HB

/-- No other counter lives through the whole program. -/
theorem unscoped_eq : ∀ sm : SemLoc sig, sm.isScoped .tc = false → sm = .reg barS := by decide

set_option backward.isDefEq.respectTransparency.types false in
/-- From any memory with all counters at zero the program on the eight devices ends; each device's two arguments are unchanged, its
    result is `res`, and all counters are at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = res m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; unfold seed; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barCell c) = 0)
    (hfin := fun c s' => by
      dsimp only [Tₙ]; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨(h0.trans (V₂_arg0 m c)).trans (V_main_arg0 m c), (h1.trans (V₂_arg1 m c)).trans (V_main_arg1 m c), h2.trans (V₂_v2 m c)⟩,
      sem_eq_zero hs fun c sm hsm => by
        obtain rfl := unscoped_eq sm hsm
        exact (h c).2⟩)

end Cert.KernelIdeal.Talk

end
-- ==== Proof.KernelIdealValue.lean ====
/-
  The kernel's result over the reals, and why it is the device's block of the whole product: the half of a row's sum that
  the device's own columns contribute, plus the half that its partner's contribute.
-/
module

public import proofs.«01_k».proof.Proof.KernelIdealRegion
public import Idealize.ShloMosaic.Lib.MatmulPlain
public import Idealize.ShloMosaic.Lib.Pipeline.Value
public import Idealize.ShloMosaic.Lib.Pointwise.Contract
public import Idealize.ShloMosaic.Lib.Pointwise.Sums
public import Idealize.ShloMosaic.Lib.Layout
public import proofs.«01_k».proof.Proof.Gen.ReferenceIdeal.Run

@[expose] public section

noncomputable section

namespace Cert.KernelIdeal.Talk

open Cert.KernelIdeal Cert.KernelIdeal.Gen Cert.Rows

open Idealize.ShloMosaic hiding ix1 ix2 ix3 ix4
open Idealize.ShloMosaic.ValueIdx
open Idealize.ShloMosaic.TcCoe
open scoped BigOperators

/-! ## The products the kernel forms -/

/-- A block of one batch's rows, as a matrix, at a row and a column. -/
theorem rows_apply (R : ℕ) (v : (⟨3, ![1, R, 1024]⟩ : Shape).Idx → EReal) (h : (⟨3, ![1, R, 1024]⟩ : Shape).ShapeCasts ⟨2, ![R, 1024]⟩)
    (r : Fin R) (k : Fin 1024) : shapeCast ⟨2, ![R, 1024]⟩ v h (ix2 r k) = v (ix3 0 r k) := by
  refine (shapeCast_dropUnit_apply ![R, 1024] v h (ix2 r k)).trans (congrArg v (funext fun a => ?_))
  match a with
  | ⟨0, _⟩ => rfl
  | ⟨1, _⟩ => rfl
  | ⟨2, _⟩ => rfl

/-- The plain product of such a block and a matrix, put back as a block: each element is a row's sum. -/
theorem product_apply (R : ℕ) (v : FVec Ideal ⟨3, ![1, R, 1024]⟩ .bf16) (w : FVec Ideal ⟨2, ![1024, 2048]⟩ .bf16)
    (h : (⟨3, ![1, R, 1024]⟩ : Shape).ShapeCasts ⟨2, ![R, 1024]⟩) (h' : (⟨2, ![R, 2048]⟩ : Shape).ShapeCasts ⟨3, ![1, R, 2048]⟩)
    (j : (⟨3, ![1, R, 2048]⟩ : Shape).Idx) :
    shapeCast ⟨3, ![1, R, 2048]⟩ (FloatOps.matmul (F := Ideal) (DotDims.plain R 1024 2048) none (shapeCast ⟨2, ![R, 1024]⟩ v h) w
        (constant (F := Ideal) ⟨2, ![R, 2048]⟩ .f32 0x00000000#32)) h' j
      = ∑ k : Fin 1024, (v (ix3 0 (j 1) k) : EReal) * w (ix2 k (j 2)) := by
  have e : (fun a : Fin 2 => j a.succ) = ix2 (n0 := R) (n1 := 2048) (j 1) (j 2) := funext fun a => by
    match a with
    | ⟨0, _⟩ => rfl
    | ⟨1, _⟩ => rfl
  refine (shapeCast_addUnit_apply ![R, 2048] _ h' j).trans ((congrArg _ e).trans ((Ideal.matmul_plain_apply none _ w _ (j 1) (j 2)).trans ?_))
  refine (congrArg (fun x : EReal => x + _) (Ideal.ofBits_zero_f32 : (_ : EReal) = 0)).trans ((zero_add _).trans ?_)
  exact Finset.sum_congr rfl fun k _ => congrArg (fun x : EReal => x * w (ix2 k (j 2))) (rows_apply R v h (j 1) k)

/-- A chunk before it is sent: rounding to the narrower format changes nothing over the reals. -/
theorem pay4_apply (v : Vec Ideal S1x256x1024 .bf16) (w : Vec Ideal S1024x2048 .bf16) (j : S1x256x2048.Idx) :
    k0_pay4 v w j = ∑ k : Fin 1024, (v (ix3 0 (j 1) k) : EReal) * w (ix2 k (j 2)) :=
  product_apply 256 v w shapeCasts_S1x256x1024_S256x1024 shapeCasts_S256x2048_S1x256x2048 j

/-- The rows a device keeps, before the addition. -/
theorem pay7_apply (v : Vec Ideal S1x512x1024 .bf16) (w : Vec Ideal S1024x2048 .bf16) (j : S1x512x2048.Idx) :
    k0_pay7 v w j = ∑ k : Fin 1024, (v (ix3 0 (j 1) k) : EReal) * w (ix2 k (j 2)) :=
  product_apply 512 v w shapeCasts_S1x512x1024_S512x1024 shapeCasts_S512x2048_S1x512x2048 j

/-- The addition of a received chunk. -/
theorem pay9_apply (v : Vec Ideal S1x256x2048 .f32) (r : Vec Ideal S1x256x2048 .bf16) (j : S1x256x2048.Idx) :
    k0_pay9 v r j = (v j : EReal) + r j := by
  have back : ∀ (u : S1x256x2048.Idx → EReal),
      shapeCast S256x2048 u shapeCasts_S1x256x2048_S256x2048 (fun a : Fin 2 => j a.succ) = u j := fun u => by
    refine (shapeCast_dropUnit_apply ![256, 2048] u _ _).trans (congrArg u (funext fun a => ?_))
    match a with
    | ⟨0, _⟩ => exact (Fin.fin_one_eq_zero (j 0)).symm
    | ⟨1, _⟩ => rfl
    | ⟨2, _⟩ => rfl
  exact (shapeCast_addUnit_apply ![256, 2048]
    (fun z => (shapeCast S256x2048 v shapeCasts_S1x256x2048_S256x2048 z : EReal) + shapeCast S256x2048 r shapeCasts_S1x256x2048_S256x2048 z)
    shapeCasts_S256x2048_S1x256x2048 j).trans (congrArg₂ (fun a b : EReal => a + b) (back v) (back r))

/-- The weights as the kernel holds them are the weights. -/
theorem wbuf_eq (Wt : Dev nD → Vec Ideal S1024x2048 .bf16) (c : Dev nD) : wbuf Wt c = Wt c := by
  show shapeCast S1024x2048 (shapeCast S1024x2048 (Wt c) _) _ = Wt c
  rw [shapeCast_self, shapeCast_self]

/-! ## The result, row by row -/

variable (X : Dev nD → Vec Ideal S2x1024x1024 .bf16) (Wt : Dev nD → Vec Ideal S1024x2048 .bf16)

/-- Row `s` of batch `b` of device `c`'s product, at column `n`. -/
def rowSum (c : Dev nD) (b : Fin 2) (s : Fin 1024) (n : Fin 2048) : EReal :=
  ∑ k : Fin 1024, (X c (ix3 b s k) : EReal) * Wt c (ix2 k n)

/-- What device `c` keeps of its own product, at an element of the result: the row of its half. -/
theorem baseBuf_apply (c : Dev nD) (y : S2x512x2048.Idx) (s : Fin 1024) (hs : s.val = 512 * (c.val % 2) + (y 1).val) :
    baseBuf X Wt c y = rowSum X Wt c (y 0) s (y 2) := by
  show k0_pay7 _ (wbuf Wt c) (inBatch y) = _
  rw [pay7_apply, wbuf_eq]
  refine Finset.sum_congr rfl fun k _ => congrArg₂ (· * ·) (congrArg (X c) (funext fun a => Fin.ext ?_)) rfl
  rw [emb_val]
  have h0 := (y 0).isLt
  match a with
  | ⟨0, _⟩ => show (y 0).val % 2 + 0 = (y 0).val; exact Nat.mod_eq_of_lt h0
  | ⟨1, _⟩ => show 512 * (c.val % 2) + (y 1).val = s.val; omega
  | ⟨2, _⟩ => show 0 + k.val = k.val; omega

/-- The chunk that covers an element of the partner's result, at that element: the row of the partner's half. -/
theorem part_apply (c : Dev nD) (y : S2x512x2048.Idx) (s : Fin 1024) (hs : s.val = (512 - 512 * (c.val % 2)) + (y 1).val) :
    part X Wt c (chunkOf y) (inRows y) = rowSum X Wt c (y 0) s (y 2) := by
  show k0_pay4 _ (wbuf Wt c) (inRows y) = _
  rw [pay4_apply, wbuf_eq]
  refine Finset.sum_congr rfl fun k _ => congrArg₂ (· * ·) (congrArg (X c) (funext fun a => Fin.ext ?_)) rfl
  rw [emb_val]
  have h0 : (y 0).val < 2 := (y 0).isLt
  have h1 : (y 1).val < 512 := (y 1).isLt
  match a with
  | ⟨0, _⟩ => show (2 * (y 0).val + (y 1).val / 256) / 2 % 2 + 0 = (y 0).val; omega
  | ⟨1, _⟩ => show (256 * ((2 * (y 0).val + (y 1).val / 256) % 2) + 512) - 512 * (c.val % 2) + (y 1).val % 256 = s.val; omega
  | ⟨2, _⟩ => show 0 + k.val = k.val; omega

/-- The partner is on the other side. -/
theorem pr_side (c : Dev nD) : (pr c).val % 2 = 1 - c.val % 2 := by revert c; decide

/-- The result at an element: the device's row sum plus its partner's. -/
theorem outAt_apply (c : Dev nD) (y : S2x512x2048.Idx) (s : Fin 1024) (hs : s.val = 512 * (c.val % 2) + (y 1).val) :
    outAt X Wt c y = rowSum X Wt c (y 0) s (y 2) + rowSum X Wt (pr c) (y 0) s (y 2) := by
  have h0 : (y 0).val < 2 := (y 0).isLt
  have h1 : (y 1).val < 512 := (y 1).isLt
  have hc : chunkOf y < 4 := by show 2 * (y 0).val + (y 1).val / 256 < 4; omega
  have hp := pr_side c
  refine (if_pos hc).trans ?_
  show k0_pay9 _ _ (inRows y) = _
  rw [pay9_apply, part_apply X Wt (pr c) y s (by omega), ← baseBuf_apply X Wt c y s hs]
  refine congrArg (· + _) (congrArg (baseBuf X Wt c) (funext fun a => Fin.ext ?_))
  rw [emb_val]
  match a with
  | ⟨0, _⟩ => show (2 * (y 0).val + (y 1).val / 256) / 2 % 2 + 0 = (y 0).val; omega
  | ⟨1, _⟩ => show 256 * ((2 * (y 0).val + (y 1).val / 256) % 2) + (y 1).val % 256 = (y 1).val; omega
  | ⟨2, _⟩ => show 0 + (y 2).val = (y 2).val; omega

/-! ## The whole product -/

/-- The whole activations' element that multiplies row `k` of the whole weights: head `k / 64`, position `k % 64`. -/
abbrev inHead (b : Fin 2) (s : Fin 1024) (k : Fin 2048) : Cert.ReferenceIdeal.S2x1024x32x64.Idx :=
  ix4 b s (⟨k.val / 64, by have := k.isLt; omega⟩ : Fin 32) (⟨k.val % 64, by omega⟩ : Fin 64)

/-- The reference's result: its term of the whole activations and the whole weights. -/
abbrev whole (A : FVec Ideal Cert.ReferenceIdeal.S2x1024x32x64 .bf16) (B : FVec Ideal Cert.ReferenceIdeal.S2048x2048 .bf16) :
    FVec Ideal Cert.ReferenceIdeal.S2x1024x2048 .f32 :=
  extf .f32 (truncf .bf16 (Host.dotGeneral (F := Ideal) (φ₁ := .bf16) (φ₂ := .bf16) Cert.ReferenceIdeal.dot_S2x1024x2048_S2048x2048_S2x1024x2048_2_0_01_1_n_n none
    (shapeCast _ A Cert.ReferenceIdeal.Gen.shapeCasts_S2x1024x32x64_S2x1024x2048) B) Cert.ReferenceIdeal.Gen.bitsLt_bf16_f32) Cert.ReferenceIdeal.Gen.bitsLt_bf16_f32

/-- It is, at each element, the sum over all 2048 columns of the flattened activations. -/
theorem whole_apply (A : FVec Ideal Cert.ReferenceIdeal.S2x1024x32x64 .bf16) (B : FVec Ideal Cert.ReferenceIdeal.S2048x2048 .bf16)
    (b : Fin 2) (s : Fin 1024) (n : Fin 2048) :
    whole A B (ix3 b s n) = ∑ k : Fin 2048, (A (inHead b s k) : EReal) * B (ix2 k n) := by
  refine (Ideal.dotGeneral_apply _ none .single _ _ _).trans
    ((Cert.ReferenceIdeal.dot_S2x1024x2048_S2048x2048_S2x1024x2048_2_0_01_1_n_n.sum_contr₁ (a := 2) rfl rfl _).trans (Finset.sum_congr rfl fun k _ => ?_))
  refine congrArg₂ (· * ·) (shapeCast_apply A _ _ (inHead b s k) ?_) (congrArg B (funext fun a => ?_))
  · rw [Shape.rowMajor_val_four, Shape.rowMajor_val_three]
    show ((b.val * 1024 + s.val) * 32 + k.val / 64) * 64 + k.val % 64 = (b.val * 1024 + s.val) * 2048 + k.val
    omega
  · match a with
    | ⟨0, _⟩ => rfl
    | ⟨1, _⟩ => rfl

/-! ## The blocks -/

variable (m : (ℓ : Loc nD τ sig) → Buf (Elt Ideal) ℓ)

/-- The left factor the call finds is the launch's, its last two axes flattened. -/
theorem Xin_eq (c : Dev nD) : Xin m c = shapeCast _ (m ((c : Thread nD τ).loc main_arg0)) shapeCasts_S2x1024x16x64_S2x1024x1024 := by
  show StableHlo.after hostOps0 (V₀ m c) main_v1 = _
  after_results <;> rfl

/-- The coordinate that cuts the heads, the weights' rows and the result's rows. -/
theorem cut_val (c : Dev nD) : Layout.meshLin [2, 2, 2] c.val [2] = c.val % 2 := by revert c; decide

variable (A : FVec Ideal Cert.ReferenceIdeal.S2x1024x32x64 .bf16) (B : FVec Ideal Cert.ReferenceIdeal.S2048x2048 .bf16)

/-- What every device holds of the whole arrays at launch. -/
abbrev Holds : Prop := ∀ c : Dev nD,
  m ((c : Thread nD τ).loc main_arg0) = Layout.blockN ⟨4, ![2, 1024, 16, 64]⟩ ⟨4, ![2, 1024, 32, 64]⟩ (Layout.meshBlock [2, 2, 2] ![[], [], [2], []] c) A
  ∧ m ((c : Thread nD τ).loc main_arg1) = Layout.blockN ⟨2, ![1024, 2048]⟩ ⟨2, ![2048, 2048]⟩ (Layout.meshBlock [2, 2, 2] ![[2], []] c) B

/-- Column `k` of device `c`'s share, among all the columns. -/
abbrev column (c : Dev nD) (k : Fin 1024) : Fin 2048 := ⟨1024 * (c.val % 2) + k.val, by have := k.isLt; omega⟩

variable {m A B}

/-- A device's left factor is its columns of the whole one, -/
theorem Xin_apply (hm : Holds m A B) (c : Dev nD) (b : Fin 2) (s : Fin 1024) (k : Fin 1024) :
    Xin m c (ix3 b s k) = A (inHead b s (column c k)) := by
  have hk := k.isLt
  rw [Xin_eq, (hm c).1]
  refine (shapeCast_apply _ shapeCasts_S2x1024x16x64_S2x1024x1024 _ (ix4 b s (⟨k.val / 64, by omega⟩ : Fin 16) (⟨k.val % 64, by omega⟩ : Fin 64)) ?_).trans ?_
  · rw [Shape.rowMajor_val_four, Shape.rowMajor_val_three]
    show ((b.val * 1024 + s.val) * 16 + k.val / 64) * 64 + k.val % 64 = (b.val * 1024 + s.val) * 1024 + k.val
    omega
  rw [Layout.blockN_apply]
  refine congrArg A (funext fun a => Fin.ext ?_)
  have hc := cut_val c
  rw [Layout.TilesN.idx_val]
  match a with
  | ⟨0, _⟩ => show 0 * 2 + b.val = b.val; omega
  | ⟨1, _⟩ => show 0 * 1024 + s.val = s.val; omega
  | ⟨2, _⟩ => show Layout.meshLin [2, 2, 2] c.val [2] * 16 + k.val / 64 = (1024 * (c.val % 2) + k.val) / 64; omega
  | ⟨3, _⟩ => show 0 * 64 + k.val % 64 = (1024 * (c.val % 2) + k.val) % 64; omega

/-- and its right factor its rows. -/
theorem Win_apply (hm : Holds m A B) (c : Dev nD) (k : Fin 1024) (n : Fin 2048) : Win m c (ix2 k n) = B (ix2 (column c k) n) := by
  have e : Win m c = m ((c : Thread nD τ).loc main_arg1) := V_main_arg1 m c
  rw [e, (hm c).2, Layout.blockN_apply]
  refine congrArg B (funext fun a => Fin.ext ?_)
  have hc := cut_val c
  rw [Layout.TilesN.idx_val]
  match a with
  | ⟨0, _⟩ => show Layout.meshLin [2, 2, 2] c.val [2] * 1024 + k.val = 1024 * (c.val % 2) + k.val; omega
  | ⟨1, _⟩ => show 0 * 2048 + n.val = n.val; omega

/-- So a device's row sum is the whole row's sum over its columns. -/
theorem rowSum_eq (hm : Holds m A B) (c : Dev nD) (b : Fin 2) (s : Fin 1024) (n : Fin 2048) :
    rowSum (Xin m) (Win m) c b s n = ∑ k : Fin 1024, (A (inHead b s (column c k)) : EReal) * B (ix2 (column c k) n) :=
  Finset.sum_congr rfl fun k _ => congrArg₂ (fun x y : EReal => x * y) (Xin_apply hm c b s k) (Win_apply hm c k n)

/-- A device's and its partner's row sums are together the whole row's. -/
theorem rowSum_add (hm : Holds m A B) (c : Dev nD) (b : Fin 2) (s : Fin 1024) (n : Fin 2048) :
    rowSum (Xin m) (Win m) c b s n + rowSum (Xin m) (Win m) (pr c) b s n = whole A B (ix3 b s n) := by
  have hp := pr_side c
  rw [whole_apply, Fin.sum_univ_two_halves 1024 1024 rfl, rowSum_eq hm, rowSum_eq hm]
  have at_ (d : Dev nD) (z : ℕ) (hd : d.val % 2 = z) (f : Fin 1024 → Fin 2048) (hf : ∀ k, (f k).val = 1024 * z + k.val) :
      ∑ k : Fin 1024, (A (inHead b s (column d k)) : EReal) * B (ix2 (column d k) n) = ∑ k : Fin 1024, (A (inHead b s (f k)) : EReal) * B (ix2 (f k) n) :=
    Finset.sum_congr rfl fun k _ => by
      have e : column d k = f k := Fin.ext (by rw [hf]; show 1024 * (d.val % 2) + k.val = _; rw [hd])
      rw [e]
  rcases Nat.mod_two_eq_zero_or_one c.val with h | h
  · exact congrArg₂ (fun x y : EReal => x + y) (at_ c 0 h _ fun k => by show k.val = _; omega) (at_ (pr c) 1 (by omega) _ fun k => by show 1024 + k.val = _; omega)
  · rw [add_comm]
    exact congrArg₂ (fun x y : EReal => x + y) (at_ (pr c) 0 (by omega) _ fun k => by show k.val = _; omega) (at_ c 1 h _ fun k => by show 1024 + k.val = _; omega)

/-- **The result on each device is its block of the whole product.** -/
theorem res_eq (hm : Holds m A B) (c : Dev nD) :
    res m c = Layout.blockN ⟨3, ![2, 512, 2048]⟩ ⟨3, ![2, 1024, 2048]⟩ (Layout.meshBlock [2, 2, 2] ![[], [2], []] c) (whole A B) := by
  funext y
  have h1 : (y 1).val < 512 := (y 1).isLt
  have hc := cut_val c
  rw [Layout.blockN_apply]
  refine (outAt_apply (Xin m) (Win m) c y ⟨512 * (c.val % 2) + (y 1).val, by omega⟩ rfl).trans ((rowSum_add hm c _ _ _).trans (congrArg (whole A B) (funext fun a => Fin.ext ?_)))
  rw [Layout.TilesN.idx_val]
  match a with
  | ⟨0, _⟩ => show (y 0).val = 0 * 2 + (y 0).val; omega
  | ⟨1, _⟩ => show 512 * (c.val % 2) + (y 1).val = Layout.meshLin [2, 2, 2] c.val [2] * 512 + (y 1).val; omega
  | ⟨2, _⟩ => show (y 2).val = 0 * 2048 + (y 2).val; omega

end Cert.KernelIdeal.Talk

end
-- ==== Proof.lean ====
/-
  The claims, put together: the three programs' runs, and the equation of the kernel's blocks with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The printed program runs on any memory: its two arguments end as they began and every counter at zero. -/
theorem frame_kernel : quiescent_Kernel (hKernel := Cert.Kernel.Gen.facts) := fun m g _ =>
  (θ_run _ _ _).mono (fun _ h => ⟨fun c => ⟨(h.1 c).1, (h.1 c).2.1⟩, h.2⟩) (Cert.Kernel.Talk.run_main (F := Bits) m g)

/-- So does the program read over the reals, -/
theorem frame_ideal : quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Talk.run_main (F := Ideal) m g)

/-- and the reference, which has no counters. -/
theorem frame_reference : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- From matching memories each device ends with its block of what the reference computes. -/
theorem equal : algebraic_KernelIdeal_ReferenceIdeal (hKernelIdeal := Cert.KernelIdeal.Gen.facts) (hReferenceIdeal := Cert.ReferenceIdeal.Gen.facts) :=
  fun m g m' g' _ hm =>
    ⟨Cert.KernelIdeal.Talk.whole (m' ((((0 : Dev Cert.ReferenceIdeal.nD).tc : Thread Cert.ReferenceIdeal.nD Cert.ReferenceIdeal.τ)).loc Cert.ReferenceIdeal.main_arg0))
        (m' ((((0 : Dev Cert.ReferenceIdeal.nD).tc : Thread Cert.ReferenceIdeal.nD Cert.ReferenceIdeal.τ)).loc Cert.ReferenceIdeal.main_arg1)),
      (θ_run _ _ _).mono (fun _ h c => ⟨(h.1 c).2.2.trans (Cert.KernelIdeal.Talk.res_eq hm c), (h.1 c).1, (h.1 c).2.1⟩)
        (Cert.KernelIdeal.Talk.run_main (F := Ideal) m g),
      (θ_run _ _ _).mono (fun _ h => h 0) (Cert.ReferenceIdeal.Value.run (F := Ideal) m' g')⟩

/-- **All that is claimed.** -/
theorem claim : Cert.Claim :=
  ⟨Cert.Kernel.Gen.facts, Cert.KernelIdeal.Gen.facts, Cert.ReferenceIdeal.Gen.facts, frame_kernel, frame_ideal, frame_reference, trivial, equal⟩

end Cert.Proof

end
